-- ==== Defs.lean ====
def Pre_Kernel (m : (ℓ : Loc Cert.Kernel.nD Cert.Kernel.τ Cert.Kernel.sig) → Buf (Elt Bits) ℓ) : Prop :=
  True

def Pre_Kernel_top_scores_distinct [hPre_top_scores_distinct : Cert.Pre_top_scores_distinct.Facts] (m : (ℓ : Loc Cert.Kernel.nD Cert.Kernel.τ Cert.Kernel.sig) → Buf (Elt Bits) ℓ) : Prop :=
  ∀ c : Dev Cert.Kernel.nD,
    (Cert.Pre_top_scores_distinct.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_top_scores_distinct : Cert.Pre_top_scores_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_top_scores_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_scores_distinct [hPre_top_scores_distinct : Cert.Pre_top_scores_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_scores_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_top_scores_distinct [hKernel : Cert.Kernel.Facts] [hPre_top_scores_distinct : Cert.Pre_top_scores_distinct.Facts] : Prop :=
  ∀ (m : (ℓ : Loc Cert.Kernel.nD Cert.Kernel.τ Cert.Kernel.sig) → Buf (Elt Bits) ℓ) (g : Dev Cert.Kernel.nD → PrngReg), Pre_Kernel_top_scores_distinct m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_top_scores_distinct : Cert.Pre_top_scores_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_top_scores_distinct [hReferenceIdeal : Cert.ReferenceIdeal.Facts] [hPre_top_scores_distinct : Cert.Pre_top_scores_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_scores_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_top_scores_distinct : Cert.Pre_top_scores_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_top_scores_distinct : Cert.Pre_top_scores_distinct.Facts),
    quiescent_Kernel (hKernel := hKernel)
    ∧ quiescent_Kernel_pre_top_scores_distinct (hKernel := hKernel) (hPre_top_scores_distinct := hPre_top_scores_distinct)
    ∧ quiescent_KernelIdeal (hKernelIdeal := hKernelIdeal) (hPre_top_scores_distinct := hPre_top_scores_distinct)
    ∧ quiescent_ReferenceIdeal (hReferenceIdeal := hReferenceIdeal)
    ∧ quiescent_ReferenceIdeal_pre_top_scores_distinct (hReferenceIdeal := hReferenceIdeal) (hPre_top_scores_distinct := hPre_top_scores_distinct)
    ∧ preserves_Kernel_KernelIdeal
    ∧ algebraic_KernelIdeal_ReferenceIdeal (hKernelIdeal := hKernelIdeal) (hReferenceIdeal := hReferenceIdeal) (hPre_top_scores_distinct := hPre_top_scores_distinct)
-- ==== Pre_top_scores_distinct.lean ====
abbrev S128x8732x4 : Shape := ⟨3, ![128, 8732, 4]⟩
abbrev S128x8732x21 : Shape := ⟨3, ![128, 8732, 21]⟩
abbrev S8732x4 : Shape := ⟨2, ![8732, 4]⟩
abbrev S_ : Shape := ⟨0, ![]⟩
abbrev S128x8732 : Shape := ⟨2, ![128, 8732]⟩
abbrev S128x8732x1 : Shape := ⟨3, ![128, 8732, 1]⟩
abbrev S128x8732x20 : Shape := ⟨3, ![128, 8732, 20]⟩
abbrev S128x20x8732 : Shape := ⟨3, ![128, 20, 8732]⟩
abbrev S128x20x201 : Shape := ⟨3, ![128, 20, 201]⟩
abbrev S128x20x200 : Shape := ⟨3, ![128, 20, 200]⟩

class Facts : Prop where
  reducesTo_S128x8732x21_S128x8732_d2 : S128x8732x21.ReducesTo [2] S128x8732
  h_S_ : 0 < S_.numel
  bcast_S_S128x8732 : S_.BroadcastsInDim S128x8732 (![] : Fin 0 → Fin S128x8732.rank)
  bcast_S128x8732_S128x8732x1_0_1 : S128x8732.BroadcastsInDim S128x8732x1 (![0, 1] : Fin 2 → Fin S128x8732x1.rank)
  bcast_S128x8732x1_S128x8732x21_0_1_2 : S128x8732x1.BroadcastsInDim S128x8732x21 (![0, 1, 2] : Fin 3 → Fin S128x8732x21.rank)
  slices_S128x8732x21_S128x8732x20_0_0_1 : S128x8732x21.Slices ![0, 0, 1] S128x8732x20
  transposes_S128x8732x20_S128x20x8732_0_2_1 : S128x8732x20.Transposes [0, 2, 1] S128x20x8732
  sliceFits_S128x20x8732_S128x20x201 : S128x20x8732.Slices (fun _ => 0) S128x20x201
  slices_S128x20x201_S128x20x200_0_0_0 : S128x20x201.Slices ![0, 0, 0] S128x20x200
  slices_S128x20x201_S128x20x200_0_0_1 : S128x20x201.Slices ![0, 0, 1] S128x20x200
  reducesTo_S128x20x200_S_d0_1_2 : S128x20x200.ReducesTo [0, 1, 2] S_

variable [Facts]

def fn {F : FTy → Type} [FloatOps F] (main_arg0 : FVec F S128x8732x4 .f32) (main_arg1 : FVec F S128x8732x21 .f32) (main_arg2 : FVec F S8732x4 .f32) : IVec S_ 1 :=
  let main_cst : FVec F S_ .f32 := constant S_ .f32 0xFF800000#32
  let main_v0 : FVec F S128x8732 .f32 := (fun x v => Host.reduce FloatOps.maximumf x v reducesTo_S128x8732x21_S128x8732_d2 h_S_) main_arg1 main_cst
  let main_cst_0 : FVec F S_ .f32 := constant S_ .f32 0xFF800000#32
  let main_v1 : FVec F S128x8732 .f32 := broadcastInDim S128x8732 ![] bcast_S_S128x8732 main_cst_0
  let main_v2 : FVec F S128x8732 .f32 := maximumf main_v1 main_v0
  let main_v3 : FVec F S128x8732x1 .f32 := broadcastInDim S128x8732x1 ![0, 1] bcast_S128x8732_S128x8732x1_0_1 main_v2
  let main_v4 : FVec F S128x8732x21 .f32 := broadcastInDim S128x8732x21 ![0, 1, 2] bcast_S128x8732x1_S128x8732x21_0_1_2 main_v3
  let main_v5 : FVec F S128x8732x21 .f32 := subf main_arg1 main_v4
  let main_v6 : FVec F S128x8732x21 .f32 := Host.exp main_v5
  let main_cst_1 : FVec F S_ .f32 := constant S_ .f32 0x00000000#32
  let main_v7 : FVec F S128x8732 .f32 := (fun x v => Host.reduceAdd x v reducesTo_S128x8732x21_S128x8732_d2 h_S_) main_v6 main_cst_1
  let main_v8 : FVec F S128x8732x1 .f32 := broadcastInDim S128x8732x1 ![0, 1] bcast_S128x8732_S128x8732x1_0_1 main_v7
  let main_v9 : FVec F S128x8732x21 .f32 := broadcastInDim S128x8732x21 ![0, 1, 2] bcast_S128x8732x1_S128x8732x21_0_1_2 main_v8
  let main_v10 : FVec F S128x8732x21 .f32 := Host.divf main_v6 main_v9
  let main_v11 : FVec F S128x8732x20 .f32 := (extractStridedSlice S128x8732x20 ![0, 0, 1] · slices_S128x8732x21_S128x8732x20_0_0_1) main_v10
  let main_v12 : FVec F S128x20x8732 .f32 := (transpose S128x20x8732 [0, 2, 1] · transposes_S128x8732x20_S128x20x8732_0_2_1) main_v11
  let main_values : FVec F S128x20x201 .f32 := (fun x => (Host.topK S128x20x201 2 (FloatOps.cmpfTotal .gt) x sliceFits_S128x20x8732_S128x20x201).1) main_v12
  let main_indices : IVec S128x20x201 32 := (fun x => (Host.topK S128x20x201 2 (FloatOps.cmpfTotal .gt) x sliceFits_S128x20x8732_S128x20x201).2) main_v12
  let main_v13 : FVec F S128x20x200 .f32 := (extractStridedSlice S128x20x200 ![0, 0, 0] · slices_S128x20x201_S128x20x200_0_0_0) main_values
  let main_v14 : FVec F S128x20x200 .f32 := (extractStridedSlice S128x20x200 ![0, 0, 1] · slices_S128x20x201_S128x20x200_0_0_1) main_values
  let main_v15 : IVec S128x20x200 1 := cmpf .ogt main_v13 main_v14
  let main_c : IVec S_ 1 := constantI S_ 1 1#1
  let main_v16 : IVec S_ 1 := (fun x v => Host.reduce IntOp.andi x v reducesTo_S128x20x200_S_d0_1_2 h_S_) main_v15 main_c
  main_v16
-- ==== Kernel.lean ====
abbrev S128x8732x4 : Shape := ⟨3, ![128, 8732, 4]⟩
abbrev S128x8732x21 : Shape := ⟨3, ![128, 8732, 21]⟩
abbrev S8732x4 : Shape := ⟨2, ![8732, 4]⟩
abbrev S128x21x8732 : Shape := ⟨3, ![128, 21, 8732]⟩
abbrev S_ : Shape := ⟨0, ![]⟩
abbrev S128x21x8960 : Shape := ⟨3, ![128, 21, 8960]⟩
abbrev S128x20x200 : Shape := ⟨3, ![128, 20, 200]⟩
abbrev S1x21x8960 : Shape := ⟨3, ![1, 21, 8960]⟩
abbrev S1x20x200 : Shape := ⟨3, ![1, 20, 200]⟩
abbrev S20x8960 : Shape := ⟨2, ![20, 8960]⟩
abbrev S21x8960 : Shape := ⟨2, ![21, 8960]⟩
abbrev S8960 : Shape := ⟨1, ![8960]⟩
abbrev S1x8960 : Shape := ⟨2, ![1, 8960]⟩
abbrev S20x200 : Shape := ⟨2, ![20, 200]⟩
abbrev S20 : Shape := ⟨1, ![20]⟩
abbrev S20x1 : Shape := ⟨2, ![20, 1]⟩
abbrev S128x1x8732x4 : Shape := ⟨4, ![128, 1, 8732, 4]⟩
abbrev S128x20x200x1 : Shape := ⟨4, ![128, 20, 200, 1]⟩
abbrev S1 : Shape := ⟨1, ![1]⟩
abbrev S1x1x1x1 : Shape := ⟨4, ![1, 1, 1, 1]⟩
abbrev S128x20x200x4 : Shape := ⟨4, ![128, 20, 200, 4]⟩
abbrev S20x200x128 : Shape := ⟨3, ![20, 200, 128]⟩
abbrev S20x4x200x128 : Shape := ⟨4, ![20, 4, 200, 128]⟩
abbrev S1x200x128 : Shape := ⟨3, ![1, 200, 128]⟩
abbrev S1x4x200x128 : Shape := ⟨4, ![1, 4, 200, 128]⟩
abbrev S200x200x128 : Shape := ⟨3, ![200, 200, 128]⟩
abbrev S200x128 : Shape := ⟨2, ![200, 128]⟩
abbrev S1x1x200x128 : Shape := ⟨4, ![1, 1, 200, 128]⟩
abbrev S8x128 : Shape := ⟨2, ![8, 128]⟩
abbrev S8x1x128 : Shape := ⟨3, ![8, 1, 128]⟩
abbrev S8x200x128 : Shape := ⟨3, ![8, 200, 128]⟩
abbrev S128 : Shape := ⟨1, ![128]⟩
abbrev S1x128 : Shape := ⟨2, ![1, 128]⟩
abbrev S128x20x200x5 : Shape := ⟨4, ![128, 20, 200, 5]⟩
abbrev S128x1x200x5 : Shape := ⟨4, ![128, 1, 200, 5]⟩
abbrev S128x21x200x5 : Shape := ⟨4, ![128, 21, 200, 5]⟩

abbrev nBuf : Space → Nat
  | .hbm => 72
  | .vmem => 18
  | .smem => 0
  | _ => 0

abbrev bufTy : (tb : Table) → Fin (tcTables nBuf tb) → BufTy
  | .hbm, ⟨0, _⟩ => ⟨S128x8732x4, .f32⟩
  | .hbm, ⟨1, _⟩ => ⟨S128x8732x21, .f32⟩
  | .hbm, ⟨2, _⟩ => ⟨S8732x4, .f32⟩
  | .hbm, ⟨3, _⟩ => ⟨S128x21x8732, .f32⟩
  | .hbm, ⟨4, _⟩ => ⟨S_, .i32⟩
  | .hbm, ⟨5, _⟩ => ⟨S_, .f32⟩
  | .hbm, ⟨6, _⟩ => ⟨S128x21x8960, .f32⟩
  | .hbm, ⟨7, _⟩ => ⟨S128x20x200, .f32⟩
  | .hbm, ⟨8, _⟩ => ⟨S128x20x200, .i32⟩
  | .hbm, ⟨9, _⟩ => ⟨S_, .i32⟩
  | .hbm, ⟨10, _⟩ => ⟨S128x20x200, .i32⟩
  | .hbm, ⟨11, _⟩ => ⟨S128x20x200, .i32⟩
  | .hbm, ⟨12, _⟩ => ⟨S128x1x8732x4, .f32⟩
  | .hbm, ⟨13, _⟩ => ⟨S128x20x200x1, .i32⟩
  | .hbm, ⟨14, _⟩ => ⟨S_, .i32⟩
  | .hbm, ⟨15, _⟩ => ⟨S128x20x200x1, .i32⟩
  | .hbm, ⟨16, _⟩ => ⟨S128x20x200x1, .i1⟩
  | .hbm, ⟨17, _⟩ => ⟨S_, .i32⟩
  | .hbm, ⟨18, _⟩ => ⟨S128x20x200x1, .i32⟩
  | .hbm, ⟨19, _⟩ => ⟨S128x20x200x1, .i32⟩
  | .hbm, ⟨20, _⟩ => ⟨S128x20x200x1, .i32⟩
  | .hbm, ⟨21, _⟩ => ⟨S128x8732x4, .f32⟩
  | .hbm, ⟨22, _⟩ => ⟨S1, .i32⟩
  | .hbm, ⟨23, _⟩ => ⟨S_, .i32⟩
  | .hbm, ⟨24, _⟩ => ⟨S128x20x200x1, .i32⟩
  | .hbm, ⟨25, _⟩ => ⟨S128x20x200x1, .i1⟩
  | .hbm, ⟨26, _⟩ => ⟨S1x1x1x1, .i32⟩
  | .hbm, ⟨27, _⟩ => ⟨S128x20x200x1, .i32⟩
  | .hbm, ⟨28, _⟩ => ⟨S128x20x200x1, .i1⟩
  | .hbm, ⟨29, _⟩ => ⟨S128x20x200x1, .i1⟩
  | .hbm, ⟨30, _⟩ => ⟨S_, .i1⟩
  | .hbm, ⟨31, _⟩ => ⟨S128x20x200, .i1⟩
  | .hbm, ⟨32, _⟩ => ⟨S128x20x200x4, .f32⟩
  | .hbm, ⟨33, _⟩ => ⟨S128x20x200x4, .i1⟩
  | .hbm, ⟨34, _⟩ => ⟨S_, .f32⟩
  | .hbm, ⟨35, _⟩ => ⟨S128x20x200x4, .f32⟩
  | .hbm, ⟨36, _⟩ => ⟨S128x20x200x4, .f32⟩
  | .hbm, ⟨37, _⟩ => ⟨S_, .i32⟩
  | .hbm, ⟨38, _⟩ => ⟨S128x20x200, .i32⟩
  | .hbm, ⟨39, _⟩ => ⟨S128x20x200, .i1⟩
  | .hbm, ⟨40, _⟩ => ⟨S_, .i32⟩
  | .hbm, ⟨41, _⟩ => ⟨S128x20x200, .i32⟩
  | .hbm, ⟨42, _⟩ => ⟨S128x20x200, .i32⟩
  | .hbm, ⟨43, _⟩ => ⟨S128x20x200, .i32⟩
  | .hbm, ⟨44, _⟩ => ⟨S128x20x200x1, .i32⟩
  | .hbm, ⟨45, _⟩ => ⟨S1, .i32⟩
  | .hbm, ⟨46, _⟩ => ⟨S_, .i32⟩
  | .hbm, ⟨47, _⟩ => ⟨S128x20x200x1, .i32⟩
  | .hbm, ⟨48, _⟩ => ⟨S128x20x200x1, .i1⟩
  | .hbm, ⟨49, _⟩ => ⟨S1x1x1x1, .i32⟩
  | .hbm, ⟨50, _⟩ => ⟨S128x20x200x1, .i32⟩
  | .hbm, ⟨51, _⟩ => ⟨S128x20x200x1, .i1⟩
  | .hbm, ⟨52, _⟩ => ⟨S128x20x200x1, .i1⟩
  | .hbm, ⟨53, _⟩ => ⟨S_, .i1⟩
  | .hbm, ⟨54, _⟩ => ⟨S128x20x200, .i1⟩
  | .hbm, ⟨55, _⟩ => ⟨S128x20x200x4, .f32⟩
  | .hbm, ⟨56, _⟩ => ⟨S128x20x200x4, .i1⟩
  | .hbm, ⟨57, _⟩ => ⟨S_, .f32⟩
  | .hbm, ⟨58, _⟩ => ⟨S128x20x200x4, .f32⟩
  | .hbm, ⟨59, _⟩ => ⟨S128x20x200x4, .f32⟩
  | .hbm, ⟨60, _⟩ => ⟨S20x200x128, .f32⟩
  | .hbm, ⟨61, _⟩ => ⟨S20x4x200x128, .f32⟩
  | .hbm, ⟨62, _⟩ => ⟨S20x4x200x128, .f32⟩
  | .hbm, ⟨63, _⟩ => ⟨S20x200x128, .f32⟩
  | .hbm, ⟨64, _⟩ => ⟨S20x4x200x128, .f32⟩
  | .hbm, ⟨65, _⟩ => ⟨S128x20x200, .f32⟩
  | .hbm, ⟨66, _⟩ => ⟨S128x20x200x4, .f32⟩
  | .hbm, ⟨67, _⟩ => ⟨S128x20x200x1, .f32⟩
  | .hbm, ⟨68, _⟩ => ⟨S128x20x200x5, .f32⟩
  | .hbm, ⟨69, _⟩ => ⟨S_, .f32⟩
  | .hbm, ⟨70, _⟩ => ⟨S128x1x200x5, .f32⟩
  | .hbm, ⟨71, _⟩ => ⟨S128x21x200x5, .f32⟩
  | .local _ .vmem, ⟨0, _⟩ => ⟨S1x21x8960, .f32⟩
  | .local _ .vmem, ⟨1, _⟩ => ⟨S1x21x8960, .f32⟩
  | .local _ .vmem, ⟨2, _⟩ => ⟨S1x20x200, .f32⟩
  | .local _ .vmem, ⟨3, _⟩ => ⟨S1x20x200, .f32⟩
  | .local _ .vmem, ⟨4, _⟩ => ⟨S1x20x200, .i32⟩
  | .local _ .vmem, ⟨5, _⟩ => ⟨S1x20x200, .i32⟩
  | .local _ .vmem, ⟨6, _⟩ => ⟨S20x8960, .f32⟩
  | .local _ .vmem, ⟨7, _⟩ => ⟨S1x200x128, .f32⟩
  | .local _ .vmem, ⟨8, _⟩ => ⟨S1x200x128, .f32⟩
  | .local _ .vmem, ⟨9, _⟩ => ⟨S1x4x200x128, .f32⟩
  | .local _ .vmem, ⟨10, _⟩ => ⟨S1x4x200x128, .f32⟩
  | .local _ .vmem, ⟨11, _⟩ => ⟨S1x4x200x128, .f32⟩
  | .local _ .vmem, ⟨12, _⟩ => ⟨S1x4x200x128, .f32⟩
  | .local _ .vmem, ⟨13, _⟩ => ⟨S1x200x128, .f32⟩
  | .local _ .vmem, ⟨14, _⟩ => ⟨S1x200x128, .f32⟩
  | .local _ .vmem, ⟨15, _⟩ => ⟨S1x4x200x128, .f32⟩
  | .local _ .vmem, ⟨16, _⟩ => ⟨S1x4x200x128, .f32⟩
  | .local _ .vmem, ⟨17, _⟩ => ⟨S200x200x128, .f32⟩
  | _, _ => ⟨S128x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v7 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12_0 : Ref sig .tc := ⟨.hbm, 63, rfl⟩
abbrev main_v12_1 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst : Ref sig .tc := ⟨.hbm, 69, rfl⟩
abbrev main_v17 : Ref sig .tc := ⟨.hbm, 70, rfl⟩
abbrev main_v18 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_7 : BitVec 32 := 0#32
  let c200_i32 : BitVec 32 := 200#32
  let v23 : BitVec 32 := Scalar.addi c0_i32_7 c200_i32
  let c1_i32 : BitVec 32 := 1#32
  ⟨c0_i32_7, v23, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x8960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x20x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

@[reducible] def k1_t1_loop : Scf.Loop 32 :=
  let c0_i32 : BitVec 32 := 0#32
  let c200_i32 : BitVec 32 := 200#32
  let v1151 : BitVec 32 := Scalar.addi c0_i32 c200_i32
  let c1_i32 : BitVec 32 := 1#32
  ⟨c0_i32, v1151, c1_i32⟩
def k1_off1 (k1_t1 : Fin k1_t1_loop.trips) : Fin 3 → Nat :=
  let c0_i32 : BitVec 32 := 0#32
  let c1_i32 : BitVec 32 := 1#32
  let arg7 : BitVec 32 := Scf.iv c0_i32 c1_i32 k1_t1
  let v1196 : Index := Scalar.indexCast arg7
  let c0_195 : Index := 0#32
  let c0_196 : Index := 0#32
  ![v1196.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4x200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4x200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S128x8732x4 : Shape := ⟨3, ![128, 8732, 4]⟩
abbrev S128x8732x21 : Shape := ⟨3, ![128, 8732, 21]⟩
abbrev S8732x4 : Shape := ⟨2, ![8732, 4]⟩
abbrev S_ : Shape := ⟨0, ![]⟩
abbrev S128x8732 : Shape := ⟨2, ![128, 8732]⟩
abbrev S128x8732x1 : Shape := ⟨3, ![128, 8732, 1]⟩
abbrev S8732x2 : Shape := ⟨2, ![8732, 2]⟩
abbrev S128x8732x2 : Shape := ⟨3, ![128, 8732, 2]⟩
abbrev S1x8732x2 : Shape := ⟨3, ![1, 8732, 2]⟩
abbrev S128x8732x20 : Shape := ⟨3, ![128, 8732, 20]⟩
abbrev S128x20x8732 : Shape := ⟨3, ![128, 20, 8732]⟩
abbrev S128x20x200 : Shape := ⟨3, ![128, 20, 200]⟩
abbrev S128x1x8732x4 : Shape := ⟨4, ![128, 1, 8732, 4]⟩
abbrev S128x20x200x1 : Shape := ⟨4, ![128, 20, 200, 1]⟩
abbrev S1 : Shape := ⟨1, ![1]⟩
abbrev S1x1x1x1 : Shape := ⟨4, ![1, 1, 1, 1]⟩
abbrev S128x20x200x4 : Shape := ⟨4, ![128, 20, 200, 4]⟩
abbrev S128x20x200x2 : Shape := ⟨4, ![128, 20, 200, 2]⟩
abbrev S128x20x200x1x2 : Shape := ⟨5, ![128, 20, 200, 1, 2]⟩
abbrev S128x20x1x200x2 : Shape := ⟨5, ![128, 20, 1, 200, 2]⟩
abbrev S128x20x200x200x2 : Shape := ⟨5, ![128, 20, 200, 200, 2]⟩
abbrev S128x20x200x200x1 : Shape := ⟨5, ![128, 20, 200, 200, 1]⟩
abbrev S128x20x200x200 : Shape := ⟨4, ![128, 20, 200, 200]⟩
abbrev S128x20x1x200 : Shape := ⟨4, ![128, 20, 1, 200]⟩
abbrev S200 : Shape := ⟨1, ![200]⟩
abbrev S20x200 : Shape := ⟨2, ![20, 200]⟩
abbrev S128x200x20x200 : Shape := ⟨4, ![128, 200, 20, 200]⟩
abbrev S128x200x20 : Shape := ⟨3, ![128, 200, 20]⟩
abbrev S200x128x20x200 : Shape := ⟨4, ![200, 128, 20, 200]⟩
abbrev S200x128x20 : Shape := ⟨3, ![200, 128, 20]⟩
abbrev S1x128x20x200 : Shape := ⟨4, ![1, 128, 20, 200]⟩
abbrev S1x128x20 : Shape := ⟨3, ![1, 128, 20]⟩
abbrev S128x20 : Shape := ⟨2, ![128, 20]⟩
abbrev S1x200 : Shape := ⟨2, ![1, 200]⟩
abbrev S1x1x200 : Shape := ⟨3, ![1, 1, 200]⟩
abbrev S128x20x1 : Shape := ⟨3, ![128, 20, 1]⟩
abbrev S128x20x200x5 : Shape := ⟨4, ![128, 20, 200, 5]⟩
abbrev S128x1x200x5 : Shape := ⟨4, ![128, 1, 200, 5]⟩
abbrev S128x21x200x5 : Shape := ⟨4, ![128, 21, 200, 5]⟩

abbrev nBuf : Space → Nat
  | .hbm => 206
  | .vmem => 0
  | .smem => 0
  | _ => 0

abbrev hbmTy0_0 (i : Nat) : BufTy := match i % 128 with
  | 0 => ⟨S128x8732x4, .f32⟩
  | 1 => ⟨S128x8732x21, .f32⟩
  | 2 => ⟨S8732x4, .f32⟩
  | 3 => ⟨S_, .f32⟩
  | 4 => ⟨S128x8732, .f32⟩
  | 5 => ⟨S_, .f32⟩
  | 6 => ⟨S128x8732, .f32⟩
  | 7 => ⟨S128x8732, .f32⟩
  | 8 => ⟨S128x8732x1, .f32⟩
  | 9 => ⟨S128x8732x21, .f32⟩
  | 10 => ⟨S128x8732x21, .f32⟩
  | 11 => ⟨S128x8732x21, .f32⟩
  | 12 => ⟨S_, .f32⟩
  | 13 => ⟨S128x8732, .f32⟩
  | 14 => ⟨S128x8732x1, .f32⟩
  | 15 => ⟨S128x8732x21, .f32⟩
  | 16 => ⟨S128x8732x21, .f32⟩
  | 17 => ⟨S8732x2, .f32⟩
  | 18 => ⟨S128x8732x2, .f32⟩
  | 19 => ⟨S_, .f32⟩
  | 20 => ⟨S128x8732x2, .f32⟩
  | 21 => ⟨S128x8732x2, .f32⟩
  | 22 => ⟨S8732x2, .f32⟩
  | 23 => ⟨S1x8732x2, .f32⟩
  | 24 => ⟨S128x8732x2, .f32⟩
  | 25 => ⟨S128x8732x2, .f32⟩
  | 26 => ⟨S1x8732x2, .f32⟩
  | 27 => ⟨S128x8732x2, .f32⟩
  | 28 => ⟨S128x8732x2, .f32⟩
  | 29 => ⟨S8732x2, .f32⟩
  | 30 => ⟨S128x8732x2, .f32⟩
  | 31 => ⟨S_, .f32⟩
  | 32 => ⟨S128x8732x2, .f32⟩
  | 33 => ⟨S128x8732x2, .f32⟩
  | 34 => ⟨S128x8732x2, .f32⟩
  | 35 => ⟨S1x8732x2, .f32⟩
  | 36 => ⟨S128x8732x2, .f32⟩
  | 37 => ⟨S128x8732x2, .f32⟩
  | 38 => ⟨S_, .f32⟩
  | 39 => ⟨S128x8732x2, .f32⟩
  | 40 => ⟨S128x8732x2, .f32⟩
  | 41 => ⟨S128x8732x2, .f32⟩
  | 42 => ⟨S_, .f32⟩
  | 43 => ⟨S128x8732x2, .f32⟩
  | 44 => ⟨S128x8732x2, .f32⟩
  | 45 => ⟨S128x8732x2, .f32⟩
  | 46 => ⟨S128x8732x4, .f32⟩
  | 47 => ⟨S128x8732x20, .f32⟩
  | 48 => ⟨S128x20x8732, .f32⟩
  | 49 => ⟨S128x20x200, .f32⟩
  | 50 => ⟨S128x20x200, .i32⟩
  | 51 => ⟨S128x1x8732x4, .f32⟩
  | 52 => ⟨S128x20x200x1, .i32⟩
  | 53 => ⟨S_, .i32⟩
  | 54 => ⟨S128x20x200x1, .i32⟩
  | 55 => ⟨S128x20x200x1, .i1⟩
  | 56 => ⟨S_, .i32⟩
  | 57 => ⟨S128x20x200x1, .i32⟩
  | 58 => ⟨S128x20x200x1, .i32⟩
  | 59 => ⟨S128x20x200x1, .i32⟩
  | 60 => ⟨S128x8732x4, .f32⟩
  | 61 => ⟨S1, .i32⟩
  | 62 => ⟨S_, .i32⟩
  | 63 => ⟨S128x20x200x1, .i32⟩
  | 64 => ⟨S128x20x200x1, .i1⟩
  | 65 => ⟨S1x1x1x1, .i32⟩
  | 66 => ⟨S128x20x200x1, .i32⟩
  | 67 => ⟨S128x20x200x1, .i1⟩
  | 68 => ⟨S128x20x200x1, .i1⟩
  | 69 => ⟨S_, .i1⟩
  | 70 => ⟨S128x20x200, .i1⟩
  | 71 => ⟨S128x20x200x4, .f32⟩
  | 72 => ⟨S128x20x200x4, .i1⟩
  | 73 => ⟨S_, .f32⟩
  | 74 => ⟨S128x20x200x4, .f32⟩
  | 75 => ⟨S128x20x200x4, .f32⟩
  | 76 => ⟨S128x20x200x2, .f32⟩
  | 77 => ⟨S128x20x200x1x2, .f32⟩
  | 78 => ⟨S128x20x200x2, .f32⟩
  | 79 => ⟨S128x20x1x200x2, .f32⟩
  | 80 => ⟨S128x20x200x200x2, .f32⟩
  | 81 => ⟨S128x20x200x200x2, .f32⟩
  | 82 => ⟨S128x20x200x200x2, .f32⟩
  | 83 => ⟨S128x20x200x2, .f32⟩
  | 84 => ⟨S128x20x200x1x2, .f32⟩
  | 85 => ⟨S128x20x200x2, .f32⟩
  | 86 => ⟨S128x20x1x200x2, .f32⟩
  | 87 => ⟨S128x20x200x200x2, .f32⟩
  | 88 => ⟨S128x20x200x200x2, .f32⟩
  | 89 => ⟨S128x20x200x200x2, .f32⟩
  | 90 => ⟨S128x20x200x200x2, .f32⟩
  | 91 => ⟨S_, .f32⟩
  | 92 => ⟨S_, .f32⟩
  | 93 => ⟨S128x20x200x200x2, .f32⟩
  | 94 => ⟨S128x20x200x200x2, .f32⟩
  | 95 => ⟨S128x20x200x200x1, .f32⟩
  | 96 => ⟨S128x20x200x200, .f32⟩
  | 97 => ⟨S128x20x200x200x2, .f32⟩
  | 98 => ⟨S_, .f32⟩
  | 99 => ⟨S_, .f32⟩
  | 100 => ⟨S128x20x200x200x2, .f32⟩
  | 101 => ⟨S128x20x200x200x2, .f32⟩
  | 102 => ⟨S128x20x200x200x1, .f32⟩
  | 103 => ⟨S128x20x200x200, .f32⟩
  | 104 => ⟨S128x20x200x200, .f32⟩
  | 105 => ⟨S128x20x200x2, .f32⟩
  | 106 => ⟨S128x20x200x2, .f32⟩
  | 107 => ⟨S128x20x200x2, .f32⟩
  | 108 => ⟨S128x20x200x1, .f32⟩
  | 109 => ⟨S128x20x200, .f32⟩
  | 110 => ⟨S128x20x200x2, .f32⟩
  | 111 => ⟨S128x20x200x2, .f32⟩
  | 112 => ⟨S128x20x200x2, .f32⟩
  | 113 => ⟨S128x20x200x1, .f32⟩
  | 114 => ⟨S128x20x200, .f32⟩
  | 115 => ⟨S128x20x200, .f32⟩
  | 116 => ⟨S128x20x200x1, .f32⟩
  | 117 => ⟨S128x20x1x200, .f32⟩
  | 118 => ⟨S128x20x200x200, .f32⟩
  | 119 => ⟨S128x20x200x200, .f32⟩
  | 120 => ⟨S128x20x200x200, .f32⟩
  | 121 => ⟨S128x20x200x200, .f32⟩
  | 122 => ⟨S_, .f32⟩
  | 123 => ⟨S128x20x200x200, .f32⟩
  | 124 => ⟨S128x20x200x200, .f32⟩
  | 125 => ⟨S128x20x200x200, .f32⟩
  | 126 => ⟨S200, .i32⟩
  | 127 => ⟨S_, .i1⟩
  | _ => ⟨S128x8732x4, .f32⟩

abbrev hbmTy0_1 (i : Nat) : BufTy := match i % 128 with
  | 0 => ⟨S200, .i1⟩
  | 1 => ⟨S20x200, .i1⟩
  | 2 => ⟨S128x200x20x200, .f32⟩
  | 3 => ⟨S128x200x20, .f32⟩
  | 4 => ⟨S128x20x200, .i1⟩
  | 5 => ⟨S200x128x20x200, .f32⟩
  | 6 => ⟨S200x128x20, .f32⟩
  | 7 => ⟨S_, .i1⟩
  | 8 => ⟨S200x128x20, .i1⟩
  | 9 => ⟨S_, .i32⟩
  | 10 => ⟨S200x128x20x200, .f32⟩
  | 11 => ⟨S200x128x20, .f32⟩
  | 12 => ⟨S200, .i32⟩
  | 13 => ⟨S200, .i32⟩
  | 14 => ⟨S_, .i32⟩
  | 15 => ⟨S128x20x200, .i1⟩
  | 16 => ⟨S200x128x20, .i1⟩
  | 17 => ⟨S_, .i32⟩
  | 18 => ⟨S_, .i1⟩
  | 19 => ⟨S_, .i32⟩
  | 20 => ⟨S_, .i32⟩
  | 21 => ⟨S_, .i32⟩
  | 22 => ⟨S1x128x20x200, .f32⟩
  | 23 => ⟨S128x20x200, .f32⟩
  | 24 => ⟨S_, .i32⟩
  | 25 => ⟨S_, .i32⟩
  | 26 => ⟨S1x128x20, .f32⟩
  | 27 => ⟨S128x20, .f32⟩
  | 28 => ⟨S1, .i32⟩
  | 29 => ⟨S_, .i32⟩
  | 30 => ⟨S200, .i32⟩
  | 31 => ⟨S200, .i1⟩
  | 32 => ⟨S1x200, .i1⟩
  | 33 => ⟨S1x1x200, .i1⟩
  | 34 => ⟨S128x20x200, .i1⟩
  | 35 => ⟨S128x20x200, .i1⟩
  | 36 => ⟨S_, .i1⟩
  | 37 => ⟨S128x20, .i1⟩
  | 38 => ⟨S128x20, .i1⟩
  | 39 => ⟨S_, .f32⟩
  | 40 => ⟨S128x20, .f32⟩
  | 41 => ⟨S128x20, .i1⟩
  | 42 => ⟨S128x20, .i1⟩
  | 43 => ⟨S_, .f32⟩
  | 44 => ⟨S128x20x200, .f32⟩
  | 45 => ⟨S128x20x200, .i1⟩
  | 46 => ⟨S128x20x1, .i1⟩
  | 47 => ⟨S128x20x200, .i1⟩
  | 48 => ⟨S128x20x200, .i1⟩
  | 49 => ⟨S200, .i32⟩
  | 50 => ⟨S200, .i1⟩
  | 51 => ⟨S1x200, .i1⟩
  | 52 => ⟨S1x1x200, .i1⟩
  | 53 => ⟨S128x20x200, .i1⟩
  | 54 => ⟨S128x20x200, .i1⟩
  | 55 => ⟨S128x20x200, .i1⟩
  | 56 => ⟨S1x128x20, .i1⟩
  | 57 => ⟨S_, .i32⟩
  | 58 => ⟨S_, .i32⟩
  | 59 => ⟨S200x128x20, .i1⟩
  | 60 => ⟨S_, .i32⟩
  | 61 => ⟨S_, .i32⟩
  | 62 => ⟨S128x20x200, .i1⟩
  | 63 => ⟨S_, .f32⟩
  | 64 => ⟨S_, .f32⟩
  | 65 => ⟨S128x20x200, .f32⟩
  | 66 => ⟨S128x20x200, .f32⟩
  | 67 => ⟨S128x20x200x1, .i1⟩
  | 68 => ⟨S_, .f32⟩
  | 69 => ⟨S_, .f32⟩
  | 70 => ⟨S128x20x200x4, .i1⟩
  | 71 => ⟨S128x20x200x4, .f32⟩
  | 72 => ⟨S128x20x200x4, .f32⟩
  | 73 => ⟨S128x20x200x1, .f32⟩
  | 74 => ⟨S128x20x200x5, .f32⟩
  | 75 => ⟨S_, .f32⟩
  | 76 => ⟨S128x1x200x5, .f32⟩
  | 77 => ⟨S128x21x200x5, .f32⟩
  | _ => ⟨S128x8732x4, .f32⟩

abbrev hbmTy (i : Nat) : BufTy := match i / 128 with
  | 0 => hbmTy0_0 i
  | 1 => hbmTy0_1 i
  | _ => ⟨S128x8732x4, .f32⟩

abbrev bufTy : (tb : Table) → Fin (tcTables nBuf tb) → BufTy
  | .hbm, ⟨i, _⟩ => hbmTy i
  | _, _ => ⟨S128x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_values : Ref sig .tc := ⟨.hbm, 49, rfl⟩
abbrev main_indices : Ref sig .tc := ⟨.hbm, 50, rfl⟩
abbrev main_v39 : Ref sig .tc := ⟨.hbm, 51, rfl⟩
abbrev main_v40 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_call0_cst : Ref sig .tc := ⟨.hbm, 73, rfl⟩
abbrev main_call0_v15 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_6 : Ref sig .tc := ⟨.hbm, 91, rfl⟩
abbrev main_call1_v0 : Ref sig .tc := ⟨.hbm, 92, rfl⟩
abbrev main_call1_v1 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_7 : Ref sig .tc := ⟨.hbm, 98, rfl⟩
abbrev main_call2_v0 : Ref sig .tc := ⟨.hbm, 99, rfl⟩
abbrev main_call2_v1 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_8 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_9 : Ref sig .tc := ⟨.hbm, 135, rfl⟩
abbrev main_v93 : Ref sig .tc := ⟨.hbm, 136, rfl⟩
abbrev main_c_10 : Ref sig .tc := ⟨.hbm, 137, rfl⟩
abbrev main_v94_0 : Ref sig .tc := ⟨.hbm, 138, rfl⟩
abbrev main_v94_1 : Ref sig .tc := ⟨.hbm, 139, rfl⟩
abbrev main_v94_2 : Ref sig .tc := ⟨.hbm, 140, rfl⟩
abbrev main_v94_3 : Ref sig .tc := ⟨.hbm, 141, rfl⟩
abbrev main_v94_4 : Ref sig .tc := ⟨.hbm, 142, rfl⟩
abbrev main_v94_5 : Ref sig .tc := ⟨.hbm, 143, rfl⟩
abbrev main_v94_6 : Ref sig .tc := ⟨.hbm, 144, rfl⟩
abbrev main_while0c_c_20 : Ref sig .tc := ⟨.hbm, 145, rfl⟩
abbrev main_while0c_v103 : Ref sig .tc := ⟨.hbm, 146, rfl⟩
abbrev main_while0b_call3_c : Ref sig .tc := ⟨.hbm, 147, rfl⟩
abbrev main_while0b_call3_c_0 : Ref sig .tc := ⟨.hbm, 148, rfl⟩
abbrev main_while0b_call3_c_1 : Ref sig .tc := ⟨.hbm, 149, rfl⟩
abbrev main_while0b_call3_v0 : Ref sig .tc := ⟨.hbm, 150, rfl⟩
abbrev main_while0b_v103 : Ref sig .tc := ⟨.hbm, 151, rfl⟩
abbrev main_while0b_call4_c : Ref sig .tc := ⟨.hbm, 152, rfl⟩
abbrev main_while0b_call4_c_0 : Ref sig .tc := ⟨.hbm, 153, rfl⟩
abbrev main_while0b_call4_v0 : Ref sig .tc := ⟨.hbm, 154, rfl⟩
abbrev main_while0b_v104 : Ref sig .tc := ⟨.hbm, 155, rfl⟩
abbrev main_while0b_call5_v0 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_v108 : Ref sig .tc := ⟨.hbm, 160, rfl⟩
abbrev main_while0b_v109 : Ref sig .tc := ⟨.hbm, 161, rfl⟩
abbrev main_while0b_v110 : Ref sig .tc := ⟨.hbm, 162, rfl⟩
abbrev main_while0b_v111 : Ref sig .tc := ⟨.hbm, 163, rfl⟩
abbrev main_while0b_c_20 : Ref sig .tc := ⟨.hbm, 164, rfl⟩
abbrev main_while0b_v112 : Ref sig .tc := ⟨.hbm, 165, rfl⟩
abbrev main_while0b_v113 : Ref sig .tc := ⟨.hbm, 166, rfl⟩
abbrev main_while0b_cst_21 : Ref sig .tc := ⟨.hbm, 167, rfl⟩
abbrev main_while0b_v114 : Ref sig .tc := ⟨.hbm, 168, rfl⟩
abbrev main_while0b_v115 : Ref sig .tc := ⟨.hbm, 169, rfl⟩
abbrev main_while0b_v116 : Ref sig .tc := ⟨.hbm, 170, rfl⟩
abbrev main_while0b_cst_22 : Ref sig .tc := ⟨.hbm, 171, rfl⟩
abbrev main_while0b_v117 : Ref sig .tc := ⟨.hbm, 172, rfl⟩
abbrev main_while0b_v118 : Ref sig .tc := ⟨.hbm, 173, rfl⟩
abbrev main_while0b_v119 : Ref sig .tc := ⟨.hbm, 174, rfl⟩
abbrev main_while0b_v120 : Ref sig .tc := ⟨.hbm, 175, rfl⟩
abbrev main_while0b_v121 : Ref sig .tc := ⟨.hbm, 176, rfl⟩
abbrev main_while0b_v122 : Ref sig .tc := ⟨.hbm, 177, rfl⟩
abbrev main_while0b_v123 : Ref sig .tc := ⟨.hbm, 178, rfl⟩
abbrev main_while0b_v124 : Ref sig .tc := ⟨.hbm, 179, rfl⟩
abbrev main_while0b_v125 : Ref sig .tc := ⟨.hbm, 180, rfl⟩
abbrev main_while0b_v126 : Ref sig .tc := ⟨.hbm, 181, rfl⟩
abbrev main_while0b_v127 : Ref sig .tc := ⟨.hbm, 182, rfl⟩
abbrev main_while0b_v128 : Ref sig .tc := ⟨.hbm, 183, rfl⟩
abbrev main_while0b_call6_v0 : Ref sig .tc := ⟨.hbm, 184, rfl⟩
abbrev main_while0b_call6_c : Ref sig .tc := ⟨.hbm, 185, rfl⟩
abbrev main_while0b_call6_c_0 : Ref sig .tc := ⟨.hbm, 186, rfl⟩
abbrev main_while0b_v129 : Ref sig .tc := ⟨.hbm, 187, rfl⟩
abbrev main_while0b_c_23 : Ref sig .tc := ⟨.hbm, 188, rfl⟩
abbrev main_while0b_v130 : Ref sig .tc := ⟨.hbm, 189, rfl⟩
abbrev main_v95 : Ref sig .tc := ⟨.hbm, 190, rfl⟩
abbrev main_cst_11 : Ref sig .tc := ⟨.hbm, 191, rfl⟩
abbrev main_call7_v0 : Ref sig .tc := ⟨.hbm, 192, rfl⟩
abbrev main_call7_v1 : Ref sig .tc := ⟨.hbm, 193, rfl⟩
abbrev main_v96 : Ref sig .tc := ⟨.hbm, 194, rfl⟩
abbrev main_v97 : Ref sig .tc := ⟨.hbm, 195, rfl⟩
abbrev main_cst_12 : Ref sig .tc := ⟨.hbm, 196, rfl⟩
abbrev main_call8_v0 : Ref sig .tc := ⟨.hbm, 197, rfl⟩
abbrev main_call8_v1 : Ref sig .tc := ⟨.hbm, 198, rfl⟩
abbrev main_call8_v2 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_cst_13 : Ref sig .tc := ⟨.hbm, 203, rfl⟩
abbrev main_v101 : Ref sig .tc := ⟨.hbm, 204, rfl⟩
abbrev main_v102 : Ref sig .tc := ⟨.hbm, 205, rfl⟩

abbrev nD : Nat := 1
abbrev τ : Topo := Topo.v7x

variable {F : FTy → Type} [FloatOps F]

abbrev main_while0_count : Scf.Loop 32 := ⟨0#32, 200#32, 1#32⟩
-- ==== Proof.RefFrame.lean ====
/- What the reference's run leaves alone: every operation of its @main writes a buffer of its own, so a buffer
   written by none of them, in particular each argument, ends as it was at launch. -/
module

public import proofs.«01_k».proof.Defs
public import proofs.«01_k».proof.Proof.Gen.ReferenceIdeal.Run
public import Idealize.ShloMosaic.Lib.Quiescent

@[expose] public section

noncomputable section

namespace Cert.Proof.RefFrame

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- What the stretches before the loop write. -/
abbrev preW : List (Ref sig .tc) :=
  hostOps0_W ++ hostOps0_1_W ++ hostOps0_2_W ++ hostOps0_3_W ++ hostOps0_4_W ++ hostOps0_5_W ++ hostOps0_6_W

/-- What the loop's condition and body write. -/
abbrev loopW : List (Ref sig .tc) :=
  condOps_W ++ while0Ops0_W ++ while0Ops0_1_W ++ while0Ops0_2_W ++ while0Ops0_3_W ++ while0Ops0_4_W ++ while0Ops0_5_W

/-- What the stretches after the loop write. -/
abbrev postW : List (Ref sig .tc) :=
  [main_v95, main_cst_11, main_call7_v0, main_call7_v1, main_v96, main_v97, main_cst_12, main_call8_v0, main_call8_v1,
   main_call8_v2, main_v98, main_v99, main_v100, main_cst_13, main_v101, main_v102]

/-- A buffer no stretch before the loop writes is, at the loop's entry, as launched. -/
theorem entry_keep (c : Dev nD) (r : Ref sig .tc) (h : r ∉ preW) :
    entryContents preI m c (Proc.devRef .tc r) = m ((c : Thread nD τ).loc r) := by
  simp only [preW, List.mem_append, not_or] at h
  obtain ⟨⟨⟨⟨⟨⟨h0, h1⟩, h2⟩, h3⟩, h4⟩, h5⟩, h6⟩ := h
  simp only [entryContents, afterL_cons, afterL_nil]
  rw [after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A buffer one trip does not write keeps its contents through it. -/
theorem trip_keep (V : Valuation τ sig (Elt F)) (r : Ref sig .tc) (h : r ∉ loopW) :
    afterL bodyI (after condOps V) (Proc.devRef .tc r) = V (Proc.devRef .tc r) := by
  simp only [loopW, List.mem_append, not_or] at h
  obtain ⟨⟨⟨⟨⟨⟨hc, h0⟩, h1⟩, h2⟩, h3⟩, h4⟩, h5⟩ := h
  simp only [afterL_cons, afterL_nil]
  rw [after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- A buffer the loop does not write is, before any trip, as at the loop's entry. -/
theorem atK_keep (c : Dev nD) (r : Ref sig .tc) (h : r ∉ loopW) : ∀ k,
    atK m k c (Proc.devRef .tc r) = entryContents preI m c (Proc.devRef .tc r)
  | 0 => rfl
  | k + 1 => (trip_keep (atK m k c) r h).trans (atK_keep c r h k)

/-- A buffer no stretch after the loop writes keeps its contents through them. -/
theorem post_keep (V : Valuation τ sig (Elt F)) (r : Ref sig .tc) (h : r ∉ postW) :
    afterL postI V (Proc.devRef .tc r) = V (Proc.devRef .tc r) := by
  rw [afterL_eq_after_flatten]
  exact after_of_writes_sub (W := postW) _ _ (forall_writes_sub_of_map rfl) h

/-- So a buffer written nowhere ends as launched. -/
theorem final_keep (c : Dev nD) (r : Ref sig .tc) (h : r ∉ preW) (h' : r ∉ loopW) (h'' : r ∉ postW) :
    finalContents condOps preI bodyI postI 200 m c (Proc.devRef .tc r) = m ((c : Thread nD τ).loc r) := by
  have hc : r ∉ condOps_W := fun hr => h' (by simp only [loopW, List.mem_append, hr, true_or])
  exact (post_keep _ r h'').trans ((after_of_writes_sub condOps _ condOps_writes hc).trans
    ((atK_keep m c r h' 200).trans (entry_keep m c r h)))

/-- The three arguments end as launched. -/
theorem final_args (c : Dev nD) :
    finalContents condOps preI bodyI postI 200 m c (Proc.devRef .tc main_arg0) = m ((c : Thread nD τ).loc main_arg0)
    ∧ finalContents condOps preI bodyI postI 200 m c (Proc.devRef .tc main_arg1) = m ((c : Thread nD τ).loc main_arg1)
    ∧ finalContents condOps preI bodyI postI 200 m c (Proc.devRef .tc main_arg2) = m ((c : Thread nD τ).loc main_arg2) :=
  ⟨final_keep m c _ (by decide +kernel) (by decide +kernel) (by decide +kernel),
   final_keep m c _ (by decide +kernel) (by decide +kernel) (by decide +kernel),
   final_keep m c _ (by decide +kernel) (by decide +kernel) (by decide +kernel)⟩

/-- The reference runs, its arguments end unchanged, and it has no counter to leave. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun r h => ⟨fun c =>
    ⟨(h c main_arg0 rfl).trans (final_args m c).1, (h c main_arg1 rfl).trans (final_args m c).2.1,
     (h c main_arg2 rfl).trans (final_args m c).2.2⟩, sem_eq_zero_of_no_sems (by decide) r.2⟩) (run_fold m ρ)

end Cert.Proof.RefFrame

end
-- ==== Proof.Det.lean ====
/- The detection's mathematics over the extended reals, free of any program: class scores, boxes from offsets, the
   overlap of two boxes, which candidates earlier ones suppress. -/
module

public import Idealize.ShloMosaic.PureOps
public import Idealize.ShloMosaic.PureOps.Ideal
public import Idealize.ShloMosaic.Lib.SortFacts
public import Idealize.ShloMosaic.Lib.IdealHost

@[expose] public section

noncomputable section

namespace Cert.Proof.Det
open Idealize.ShloMosaic

/-- The softmax of the 21 logits `z` at class `c`. -/
def score (z : Fin 21 → EReal) (c : Fin 21) : EReal :=
  Ideal.div (Ideal.exp (z c - Finset.fold max ⊥ z Finset.univ))
    (∑ d, Ideal.exp (z d - Finset.fold max ⊥ z Finset.univ))

/-- The corner `d` (x1, y1, x2, y2) of the box with offsets `l` from the prior `p` (centre, size). -/
def corner (l p : Fin 4 → EReal) (d : Fin 4) : EReal :=
  if d.val < 2 then
    p ⟨d.val % 2, by omega⟩ + l ⟨d.val % 2, by omega⟩ * Ideal.ofBits .f32 0x3DCCCCCD#32 * p ⟨d.val % 2 + 2, by omega⟩
      - p ⟨d.val % 2 + 2, by omega⟩ * Ideal.exp (l ⟨d.val % 2 + 2, by omega⟩ * Ideal.ofBits .f32 0x3E4CCCCD#32)
        * Ideal.ofBits .f32 0x3F000000#32
  else
    p ⟨d.val % 2, by omega⟩ + l ⟨d.val % 2, by omega⟩ * Ideal.ofBits .f32 0x3DCCCCCD#32 * p ⟨d.val % 2 + 2, by omega⟩
      + p ⟨d.val % 2 + 2, by omega⟩ * Ideal.exp (l ⟨d.val % 2 + 2, by omega⟩ * Ideal.ofBits .f32 0x3E4CCCCD#32)
        * Ideal.ofBits .f32 0x3F000000#32

/-- The area of a box given by its corners. -/
def area (a : Fin 4 → EReal) : EReal := (a 2 - a 0) * (a 3 - a 1)

/-- The area two boxes share. -/
def inter (a b : Fin 4 → EReal) : EReal :=
  max (min (a 2) (b 2) - max (a 0) (b 0)) 0 * max (min (a 3) (b 3) - max (a 1) (b 1)) 0

/-- Intersection over union, the union kept away from zero. -/
def iou (a b : Fin 4 → EReal) : EReal :=
  Ideal.div (inter a b) (max (area a + area b - inter a b) (Ideal.ofBits .f32 0x2B8CBCCC#32))

/-- Whether candidate `j` is suppressed by the candidates before step `k`: a candidate in its turn, itself not
    suppressed and of score above the threshold, suppresses every later one it overlaps too much. -/
def supp (I : Fin 200 → Fin 200 → EReal) (s : Fin 200 → EReal) : ℕ → Fin 200 → Bool
  | 0, _ => false
  | k + 1, j => supp I s k j || (if h : k < 200 then
      !(supp I s k ⟨k, h⟩) && decide (Ideal.ofBits .f32 0x3C23D70A#32 < s ⟨k, h⟩)
        && decide (Ideal.ofBits .f32 0x3EE66666#32 < I ⟨k, h⟩ j) && decide (k < j.val) else false)

/-- Whether candidate `j` is kept. -/
def kept (I : Fin 200 → Fin 200 → EReal) (s : Fin 200 → EReal) (j : Fin 200) : Bool :=
  !(supp I s j.val j) && decide (Ideal.ofBits .f32 0x3C23D70A#32 < s j)

/-- Once its turn has come, nothing more suppresses a candidate. -/
theorem supp_stable (I : Fin 200 → Fin 200 → EReal) (s : Fin 200 → EReal) (j : Fin 200) :
    ∀ n, supp I s (j.val + n) j = supp I s j.val j
  | 0 => rfl
  | n + 1 => by
    rw [← Nat.add_assoc, supp, supp_stable I s j n]
    have h : decide (j.val + n < j.val) = false := decide_eq_false (by omega)
    simp only [h, Bool.and_false, dite_eq_ite, ite_self, Bool.or_false]

/-- So what is kept may be read off after the last step. -/
theorem kept_eq (I : Fin 200 → Fin 200 → EReal) (s : Fin 200 → EReal) (j : Fin 200) :
    kept I s j = (!(supp I s 200 j) && decide (Ideal.ofBits .f32 0x3C23D70A#32 < s j)) := by
  have h := supp_stable I s j (200 - j.val)
  rw [show j.val + (200 - j.val) = 200 by omega] at h
  rw [kept, h]

/-- The position of the `j`-th greatest of the 8732 scores `g`, equal scores in the order of their positions. -/
@[irreducible] def topPos (g : Fin 8732 → EReal) (j : Fin 8732) : Fin 8732 :=
  sortedFrom (fun a b => FloatOps.cmpfTotal (F := Ideal) (φ := .f32) .gt (g a) (g b) == 1#1) j

/-- The result's entry `d` (score, then the corners) for the candidate at rank `k` of the scores `g`, the boxes of
    all positions being `box`. -/
def entry (g : Fin 8732 → EReal) (box : Fin 8732 → Fin 4 → EReal) (k : Fin 200) (d : Fin 5) : EReal :=
  if kept (fun i j => iou (box (topPos g ⟨i, by omega⟩)) (box (topPos g ⟨j, by omega⟩)))
      (fun i => g (topPos g ⟨i, by omega⟩)) k
  then if h : d.val = 0 then g (topPos g ⟨k, by omega⟩) else box (topPos g ⟨k, by omega⟩) ⟨d.val - 1, by omega⟩
  else 0

/-- The scores of image `b`'s foreground class `c + 1` at all positions. -/
def classScores (conf : Fin 8732 → Fin 21 → EReal) (c : Fin 20) (n : Fin 8732) : EReal :=
  score (conf n) ⟨1 + c.val, by omega⟩

end Cert.Proof.Det
end
-- ==== Proof.TopPick.lean ====
/- Taking a row's maximum again and again, each time overwriting the place it was found at by minus one, finds the
   scores in the order a stable descending sort puts them, where the scores at the head of that order strictly decrease
   and none is below zero. -/
module

public import proofs.«01_k».proof.Proof.Det
public import Mathlib.Data.Finset.Fold

@[expose] public section

set_option maxRecDepth 16384

noncomputable section

namespace Cert.Proof.TopPick
open Idealize.ShloMosaic Cert.Proof.Det

variable (g : Fin 8732 → EReal)

/-- The total order's "greater" is the order's. -/
theorem gt_iff (x y : EReal) : (FloatOps.cmpfTotal (F := Ideal) (φ := .f32) .gt x y == 1#1) = decide (y < x) := by
  show (Ideal.cmp .ogt x y == 1#1) = _
  unfold Ideal.cmp
  by_cases h : y < x <;> simp [h]

/-- A later rank holds no greater score. -/
theorem topPos_le (i j : Fin 8732) (h : i < j) : g (topPos g j) ≤ g (topPos g i) := by
  unfold topPos
  have := sortedFrom_noInversion
    (fun a b => FloatOps.cmpfTotal (F := Ideal) (φ := .f32) .gt (g a) (g b) == 1#1)
    (fun a b => FloatOps.cmpfTotal (F := Ideal) (φ := .f32) .gt (g a) (g b) == 1#1)
    (fun a b hab => by rw [gt_iff] at hab ⊢; simp only [decide_eq_true_eq, decide_eq_false_iff_not] at *; exact not_lt.mpr hab.le)
    (fun _ _ h => h)
    (fun a b c hab hbc => by
      rw [gt_iff] at hab hbc ⊢; simp only [decide_eq_false_iff_not, not_lt] at *; exact hab.trans hbc) i j h
  rw [gt_iff] at this
  exact not_lt.mp (of_decide_eq_false this)

/-- No position has two ranks. -/
theorem topPos_inj {i j : Fin 8732} (h : topPos g i = topPos g j) : i = j := by
  unfold topPos at h
  exact sortedFrom_injective _ h

/-- Every position has a rank. -/
theorem topPos_surj (n : Fin 8732) : ∃ j, topPos g j = n := by
  unfold topPos
  exact sortedFrom_surjective _ n

/-- The padded row before trip `k`: padding and the `k` first-ranked places at minus one, the others at their scores. -/
def row (k : ℕ) (l : Fin 8960) : EReal :=
  if h : l.val < 8732 then
    if ∃ i : Fin 8732, i.val < k ∧ topPos g i = ⟨l.val, h⟩ then -1 else g ⟨l.val, h⟩
  else -1

/-- The place the trip `k` finds. -/
def place (k : Fin 200) : Fin 8960 := ⟨(topPos g ⟨k, by omega⟩).val, by omega⟩

/-- The head of the order strictly decreases. -/
def Strict : Prop := ∀ k : Fin 200, g (topPos g ⟨k.val + 1, by omega⟩) < g (topPos g ⟨k.val, by omega⟩)

/-- No score lies strictly between minus infinity and zero. -/
def NonNeg : Prop := ∀ n, g n = ⊥ ∨ 0 ≤ g n

variable {g}

/-- The found score is not negative. -/
theorem top_nonneg (hs : Strict g) (h0 : NonNeg g) (k : Fin 200) : 0 ≤ g (topPos g ⟨k, by omega⟩) := by
  rcases h0 (topPos g ⟨k, by omega⟩) with h | h
  · exact absurd (hs k) (by rw [h]; exact not_lt_bot)
  · exact h

/-- Before trip `k` the place to be found still holds its score. -/
theorem row_place (k : Fin 200) : row g k (place g k) = g (topPos g ⟨k, by omega⟩) := by
  have hk : (place g k).val < 8732 := (topPos g ⟨k, by omega⟩).isLt
  unfold row
  rw [dif_pos hk, if_neg]
  · rfl
  · rintro ⟨i, hi, he⟩
    have := topPos_inj g (i := i) (j := ⟨k, by omega⟩) (he.trans (Fin.ext rfl))
    rw [this] at hi
    exact absurd hi (lt_irrefl _)

/-- Every other place holds less. -/
theorem row_lt (hs : Strict g) (h0 : NonNeg g) (k : Fin 200) (l : Fin 8960) (hl : l ≠ place g k) :
    row g k l < g (topPos g ⟨k, by omega⟩) := by
  have hneg : (-1 : EReal) < g (topPos g ⟨k, by omega⟩) :=
    lt_of_lt_of_le (by rw [EReal.neg_lt_comm, neg_zero]; exact zero_lt_one) (top_nonneg hs h0 k)
  unfold row
  split
  · rename_i h
    split
    · exact hneg
    · rename_i hn
      obtain ⟨j, hj⟩ := topPos_surj g ⟨l.val, h⟩
      have hkj : k.val < j.val := by
        rcases Nat.lt_trichotomy k.val j.val with h1 | h1 | h1
        · exact h1
        · refine absurd (Fin.ext ?_) hl
          show l.val = (topPos g ⟨k, by omega⟩).val
          rw [show (⟨k.val, by omega⟩ : Fin 8732) = j from Fin.ext h1, hj]
        · exact absurd ⟨j, h1, hj⟩ hn
      rw [← hj]
      refine lt_of_le_of_lt ?_ (hs k)
      rcases Nat.lt_or_ge (k.val + 1) j.val with h2 | h2
      · exact topPos_le g _ j h2
      · rw [show j = ⟨k.val + 1, by omega⟩ from Fin.ext (by show j.val = k.val + 1; omega)]
  · exact hneg

/-- The row's maximum before trip `k` is the `k`-th greatest score. -/
theorem row_max (hs : Strict g) (h0 : NonNeg g) (k : Fin 200) :
    Finset.fold max ⊥ (row g k) Finset.univ = g (topPos g ⟨k, by omega⟩) := by
  refine le_antisymm ?_ ?_
  · rw [Finset.fold_max_le]
    refine ⟨bot_le, fun l _ => ?_⟩
    by_cases hl : l = place g k
    · rw [hl, row_place]
    · exact (row_lt hs h0 k l hl).le
  · rw [Finset.le_fold_max]
    exact Or.inr ⟨place g k, Finset.mem_univ _, (row_place k).ge⟩

/-- Overwriting the found place gives the row before the next trip. -/
theorem row_succ (k : Fin 200) (l : Fin 8960) : row g (k.val + 1) l = if l = place g k then -1 else row g k l := by
  unfold row
  by_cases h : l.val < 8732
  · rw [dif_pos h, dif_pos h]
    by_cases hl : l = place g k
    · rw [if_pos hl, if_pos ⟨⟨k.val, by omega⟩, Nat.lt_succ_self _, Fin.ext (congrArg Fin.val hl).symm⟩]
    · rw [if_neg hl]
      refine if_congr ⟨?_, ?_⟩ rfl rfl
      · rintro ⟨i, hi, he⟩
        refine ⟨i, lt_of_le_of_ne (Nat.le_of_lt_succ hi) fun hik => hl (Fin.ext ?_), he⟩
        show l.val = (topPos g ⟨k, by omega⟩).val
        rw [show (⟨k.val, by omega⟩ : Fin 8732) = i from Fin.ext hik.symm, he]
      · rintro ⟨i, hi, he⟩
        exact ⟨i, Nat.lt_succ_of_lt hi, he⟩
  · rw [dif_neg h, dif_neg h, ite_self]

end Cert.Proof.TopPick
end
-- ==== Proof.Answer.lean ====
module

public import proofs.«01_k».proof.Proof.Det
public import proofs.«01_k».proof.Proof.TopPick
public import Idealize.ShloMosaic.Lib.Pointwise

/-! The detector's answer as one function of its three arguments, and that a softmax score never lies between minus
    infinity and zero. -/

@[expose] public section

set_option maxRecDepth 16384

noncomputable section

namespace Cert.Proof.Answer
open Idealize.ShloMosaic

/-- The extended reals at the places of a 128 × 8732 × `D` array. -/
abbrev Arr3 (D : ℕ) : Type := (⟨3, ![128, 8732, D]⟩ : Shape).Idx → EReal

variable (loc : Arr3 4) (conf : Arr3 21) (pri : (⟨2, ![8732, 4]⟩ : Shape).Idx → EReal)

/-- The scores of image `b`'s foreground class `c` at all positions. -/
def scores (b : Fin 128) (c : Fin 20) : Fin 8732 → EReal := Det.classScores (fun n ch => conf (ix3 b n ch)) c

/-- The boxes of image `b` at all positions. -/
def boxes (b : Fin 128) (n : Fin 8732) : Fin 4 → EReal := Det.corner (fun d => loc (ix3 b n d)) (fun d => pri (ix2 n d))

/-- The answer at image `b`, class `c`, rank `k`, entry `d`: zero for the background class. -/
def at' (b : Fin 128) (c : Fin 21) (k : Fin 200) (d : Fin 5) : EReal :=
  if h : c.val < 1 then 0 else Det.entry (scores conf b ⟨c.val - 1, by omega⟩) (boxes loc pri b) k d

/-- The whole answer. -/
def answer : (⟨4, ![128, 21, 200, 5]⟩ : Shape).Idx → EReal := fun y => at' loc conf pri (y 0) (y 1) (y 2) (y 3)

/-- A quotient of numbers that are not negative is not negative, unless it is minus infinity. -/
theorem div_nonneg (x y : EReal) (hx : 0 ≤ x) (hy : 0 ≤ y) : Ideal.div x y = ⊥ ∨ 0 ≤ Ideal.div x y := by
  unfold Ideal.div
  by_cases h : y = 0
  · rw [if_pos h]
    by_cases h' : 0 < x
    · rw [if_pos h']; exact Or.inr le_top
    · rw [if_neg h']; exact Or.inl rfl
  · rw [if_neg h]
    exact Or.inr (mul_nonneg hx (EReal.inv_nonneg_of_nonneg hy))

/-- The exponential is not negative. -/
theorem exp_nonneg (x : EReal) : 0 ≤ Ideal.exp x := by
  induction x with
  | bot => exact le_refl _
  | top => exact le_top
  | coe r => exact EReal.coe_nonneg.mpr (Real.exp_pos r).le

/-- Softmax scores. -/
theorem nonNeg (b : Fin 128) (c : Fin 20) : TopPick.NonNeg (scores conf b c) := fun n =>
  div_nonneg _ _ (exp_nonneg _) (Finset.sum_nonneg fun _ _ => exp_nonneg _)

end Cert.Proof.Answer
end
-- ==== Proof.Words.lean ====
/- Comparisons of small numbers held in 32-bit words, and selections by them; the pattern of minus one. -/
module

public import Idealize.ShloMosaic.PureOps
public import Idealize.ShloMosaic.PureOps.Ideal
public import Idealize.ShloMosaic.Lib.IdealHost
public import Idealize.ShloMosaic.Lib.Scf

@[expose] public section

noncomputable section

namespace Cert.Proof.Words
open Idealize.ShloMosaic

/-- A truth value's bit is one exactly where it is true. -/
theorem ofBool_eq_one (p : Bool) : BitVec.ofBool p = 1#1 ↔ p = true := by cases p <;> decide

/-- Selecting by a truth value's bit. -/
theorem select_ofBool {α : Type} (p : Bool) (x y : α) : Scalar.select (BitVec.ofBool p) x y = if p = true then x else y := by
  unfold Scalar.select
  exact if_congr (ofBool_eq_one p) rfl rfl

/-- Two words of small numbers agree exactly where the numbers do. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The signed reading of a small number's word is the number. -/
theorem toInt_ofNat {a : ℕ} (ha : a < 2 ^ 31) : (BitVec.ofNat 32 a).toInt = a := by
  rw [BitVec.toInt_eq_toNat_cond, BitVec.toNat_ofNat, Nat.mod_eq_of_lt (by omega), if_pos (by omega)]

/-- "Equal", on words of small numbers. -/
theorem cmpi_eq {a b : ℕ} (ha : a < 2 ^ 31) (hb : b < 2 ^ 31) :
    IntOp.cmpi .eq (BitVec.ofNat 32 a) (BitVec.ofNat 32 b) = BitVec.ofBool (decide (a = b)) := by
  have h := ofNat_inj (a := a) (b := b) (by omega) (by omega)
  unfold IntOp.cmpi
  congr 1
  by_cases hab : a = b
  · simp [hab]
  · simp [hab, h]

/-- "Signed less", on words of small numbers. -/
theorem cmpi_slt {a b : ℕ} (ha : a < 2 ^ 31) (hb : b < 2 ^ 31) :
    IntOp.cmpi .slt (BitVec.ofNat 32 a) (BitVec.ofNat 32 b) = BitVec.ofBool (decide (a < b)) := by
  unfold IntOp.cmpi
  congr 1
  simp only [BitVec.slt_eq_decide, toInt_ofNat ha, toInt_ofNat hb, Nat.cast_lt]

/-- "Signed greater", on words of small numbers. -/
theorem cmpi_sgt {a b : ℕ} (ha : a < 2 ^ 31) (hb : b < 2 ^ 31) :
    IntOp.cmpi .sgt (BitVec.ofNat 32 a) (BitVec.ofNat 32 b) = BitVec.ofBool (decide (b < a)) := by
  unfold IntOp.cmpi
  congr 1
  simp only [BitVec.slt_eq_decide, toInt_ofNat ha, toInt_ofNat hb, Nat.cast_lt]

/-- "Signed at least", on words of small numbers. -/
theorem cmpi_sge {a b : ℕ} (ha : a < 2 ^ 31) (hb : b < 2 ^ 31) :
    IntOp.cmpi .sge (BitVec.ofNat 32 a) (BitVec.ofNat 32 b) = BitVec.ofBool (decide (b ≤ a)) := by
  unfold IntOp.cmpi
  congr 1
  simp only [BitVec.sle_eq_decide, toInt_ofNat ha, toInt_ofNat hb, Nat.cast_le]

/-- "Signed at most", on words of small numbers. -/
theorem cmpi_sle {a b : ℕ} (ha : a < 2 ^ 31) (hb : b < 2 ^ 31) :
    IntOp.cmpi .sle (BitVec.ofNat 32 a) (BitVec.ofNat 32 b) = BitVec.ofBool (decide (a ≤ b)) := by
  unfold IntOp.cmpi
  congr 1
  simp only [BitVec.sle_eq_decide, toInt_ofNat ha, toInt_ofNat hb, Nat.cast_le]

/-- A loop counter from zero by ones is the trip's number. -/
theorem iv_eq (k : ℕ) : Scf.iv 0#32 1#32 k = BitVec.ofNat 32 k := by
  unfold Scf.iv
  rw [BitVec.zero_add, BitVec.mul_one]

/-- The f32 pattern `0xBF800000` is minus one. -/
theorem ofBits_neg_one : Ideal.ofBits .f32 0xBF800000#32 = -1 := by
  have h : Ideal.ofBits .f32 0xBF800000#32 = ((-(1 : ℝ)) : EReal) := by
    simp [Ideal.ofBits, Ideal.ieee, -EReal.coe_mul, -EReal.coe_neg]; norm_num
  rw [h, EReal.coe_one]

/-- The f32 pattern `0xFF800000` is minus infinity. -/
theorem ofBits_neg_inf : Ideal.ofBits .f32 0xFF800000#32 = ⊥ := by
  simp [Ideal.ofBits, Ideal.ieee]

end Cert.Proof.Words
end
-- ==== Proof.Softmax.lean ====
module

public import proofs.«01_k».proof.Proof.Answer
public import proofs.«01_k».proof.Proof.Words
public import Idealize.ShloMosaic.Lib.Pointwise

/-! The printed softmax at one place is the score of the logits there. -/

@[expose] public section

set_option maxRecDepth 16384

noncomputable section

namespace Cert.Proof.Softmax
open Idealize.ShloMosaic

/-- Images, boxes, classes. -/
abbrev BNC : Shape := ⟨3, ![128, 8732, 21]⟩
/-- Images, boxes, one. -/
abbrev BN1 : Shape := ⟨3, ![128, 8732, 1]⟩
/-- Images, boxes. -/
abbrev BN : Shape := ⟨2, ![128, 8732]⟩
/-- A scalar. -/
abbrev Sc : Shape := ⟨0, ![]⟩

variable (hr : BNC.ReducesTo [2] BN) (hu : 0 < Sc.numel)
  (h0 : Sc.BroadcastsInDim BN (![] : Fin 0 → Fin BN.rank)) (h1 : BN.BroadcastsInDim BN1 (![0, 1] : Fin 2 → Fin BN1.rank))
  (h2 : BN1.BroadcastsInDim BNC (![0, 1, 2] : Fin 3 → Fin BNC.rank))

/-- The largest logit, at one box. -/
theorem max_at (x : FVec Ideal BNC .f32) (b : Fin 128) (n : Fin 8732) :
    Host.reduce FloatOps.maximumf x (constant Sc .f32 0xFF800000#32) hr hu (ix2 b n) = Finset.fold max ⊥ (fun d : Fin 21 => x (ix3 b n d)) Finset.univ := by
  pointwise
  rw [Words.ofBits_neg_inf]

/-- The sum over the classes, at one box. -/
theorem sum_at (x : FVec Ideal BNC .f32) (b : Fin 128) (n : Fin 8732) :
    Host.reduceAdd x (constant Sc .f32 0x00000000#32) hr hu (ix2 b n) = ∑ d : Fin 21, x (ix3 b n d) := by
  pointwise

/-- The exponentials as printed: of each logit less the largest at its box. -/
def exps (x : FVec Ideal BNC .f32) : FVec Ideal BNC .f32 :=
  Host.exp (subf x (broadcastInDim BNC ![0, 1, 2] h2 (broadcastInDim BN1 ![0, 1] h1
    (maximumf (broadcastInDim BN ![] h0 (constant (F := Ideal) Sc .f32 0xFF800000#32)) (Host.reduce FloatOps.maximumf x (constant Sc .f32 0xFF800000#32) hr hu)))))

/-- The softmax as printed. -/
def softmax (x : FVec Ideal BNC .f32) : FVec Ideal BNC .f32 :=
  Host.divf (exps hr hu h0 h1 h2 x) (broadcastInDim BNC ![0, 1, 2] h2 (broadcastInDim BN1 ![0, 1] h1
    (Host.reduceAdd (exps hr hu h0 h1 h2 x) (constant Sc .f32 0x00000000#32) hr hu)))

/-- A number per box, spread over the classes. -/
theorem spread_at (M : FVec Ideal BN .f32) (b : Fin 128) (n : Fin 8732) (d : Fin 21) :
    (broadcastInDim BNC ![0, 1, 2] h2 (broadcastInDim BN1 ![0, 1] h1 M)) (ix3 b n d) = M (ix2 b n) := by
  pointwise

/-- The larger of minus infinity and a number is the number. -/
theorem floor_at (M : FVec Ideal BN .f32) (b : Fin 128) (n : Fin 8732) :
    (maximumf (broadcastInDim BN ![] h0 (constant (F := Ideal) Sc .f32 0xFF800000#32)) M) (ix2 b n) = M (ix2 b n) := by
  pointwise
  rw [Words.ofBits_neg_inf]
  exact max_eq_right bot_le

/-- An exponential of a difference, at one place. -/
theorem expSub_at (x M : FVec Ideal BNC .f32) (b : Fin 128) (n : Fin 8732) (d : Fin 21) :
    Host.exp (subf x M) (ix3 b n d) = Ideal.exp (x (ix3 b n d) - M (ix3 b n d)) := by
  pointwise

/-- A quotient, at one place. -/
theorem div_at (x M : FVec Ideal BNC .f32) (b : Fin 128) (n : Fin 8732) (d : Fin 21) :
    Host.divf x M (ix3 b n d) = Ideal.div (x (ix3 b n d)) (M (ix3 b n d)) := by
  pointwise

/-- One exponential. -/
theorem exps_at (x : FVec Ideal BNC .f32) (b : Fin 128) (n : Fin 8732) (d : Fin 21) :
    exps hr hu h0 h1 h2 x (ix3 b n d) = Ideal.exp (x (ix3 b n d) - Finset.fold max ⊥ (fun d : Fin 21 => x (ix3 b n d)) Finset.univ) := by
  unfold exps
  rw [expSub_at, spread_at, floor_at, max_at]

/-- One score. -/
theorem softmax_at (x : FVec Ideal BNC .f32) (b : Fin 128) (n : Fin 8732) (d : Fin 21) :
    softmax hr hu h0 h1 h2 x (ix3 b n d) = Det.score (fun d => x (ix3 b n d)) d := by
  unfold softmax
  rw [div_at, spread_at, sum_at, exps_at]
  simp only [exps_at]
  unfold Det.score
  rfl

/-- Images, boxes, foreground classes. -/
abbrev BNF : Shape := ⟨3, ![128, 8732, 20]⟩
/-- Images, foreground classes, boxes. -/
abbrev BFN : Shape := ⟨3, ![128, 20, 8732]⟩

variable (h3 : BNC.Slices ![0, 0, 1] BNF) (h4 : BNF.Transposes [0, 2, 1] BFN)

/-- The foreground classes' scores as printed, classes ahead of boxes. -/
def ranked (x : FVec Ideal BNC .f32) : FVec Ideal BFN .f32 :=
  transpose BFN [0, 2, 1] (extractStridedSlice BNF ![0, 0, 1] (softmax hr hu h0 h1 h2 x) h3) h4

/-- One of them. -/
theorem ranked_at (x : FVec Ideal BNC .f32) (b : Fin 128) (c : Fin 20) (n : Fin 8732) :
    ranked hr hu h0 h1 h2 h3 h4 x (ix3 b c n) = Answer.scores x b c n := by
  have h : ∀ S : FVec Ideal BNC .f32, transpose BFN [0, 2, 1] (extractStridedSlice BNF ![0, 0, 1] S h3) h4 (ix3 b c n)
      = S (ix3 b n ⟨1 + c.val, by omega⟩) := by
    intro S
    pointwise
  unfold ranked
  rw [h, softmax_at]
  rfl

/-- Moving along the boxes' axis. -/
theorem along_at (b : Fin 128) (c : Fin 20) (r n : Fin 8732) : Shape.Idx.along (s := BFN) (ix3 b c r) 2 n = ix3 b c n := by
  funext a
  unfold Shape.Idx.along
  match a with
  | 0 => rfl
  | 1 => rfl
  | 2 => rfl

/-- Reading the sorted array: the value at rank `k` is that of the position the order puts there. -/
theorem top_values_at {K : ℕ} (hK : K ≤ 8732) (h : BFN.Slices (fun _ => 0) ⟨3, ![128, 20, K]⟩) (x : FVec Ideal BFN .f32) (b : Fin 128) (c : Fin 20) (k : Fin K) :
    (Host.topK ⟨3, ![128, 20, K]⟩ 2 (FloatOps.cmpfTotal (F := Ideal) (φ := .f32) .gt) x h).1 (ix3 b c k)
      = x (ix3 b c (Det.topPos (fun n => x (ix3 b c n)) ⟨k.val, by omega⟩)) := by
  unfold Host.topK Host.sort2 Det.topPos
  pointwise
  simp only [along_at]

/-- Reading the sorted positions. -/
theorem top_places_at {K : ℕ} (hK : K ≤ 8732) (h : BFN.Slices (fun _ => 0) ⟨3, ![128, 20, K]⟩) (x : FVec Ideal BFN .f32) (b : Fin 128) (c : Fin 20) (k : Fin K) :
    (Host.topK ⟨3, ![128, 20, K]⟩ 2 (FloatOps.cmpfTotal (F := Ideal) (φ := .f32) .gt) x h).2 (ix3 b c k)
      = BitVec.ofNat 32 (Det.topPos (fun n => x (ix3 b c n)) ⟨k.val, by omega⟩).val := by
  unfold Host.topK Host.sort2 Det.topPos
  pointwise
  simp only [along_at]
  rfl

end Cert.Proof.Softmax
end
-- ==== Proof.Gathers.lean ====
module

public import proofs.«01_k».proof.Proof.Words
public import Idealize.ShloMosaic.Lib.ValueIdxCore
public import Idealize.ShloMosaic.Lib.Pointwise

/-! The two gathers the programs print, read at one place: the row that the place's index names, clamped to the table. -/

@[expose] public section

set_option maxRecDepth 16384

noncomputable section

namespace Cert.Proof.Gathers
open Idealize.ShloMosaic

variable {α : Type}

/-- Per image: row `idx[b, c, k]` of image `b`'s table. -/
abbrev alongDims (wf : GatherDims.WF ⟨3, ![128, 8732, 4]⟩ ⟨4, ![128, 20, 200, 1]⟩ ⟨4, ![128, 20, 200, 4]⟩ [3] [1] [0] [1] [0] 3 ![1, 1, 4]) :
    GatherDims ⟨3, ![128, 8732, 4]⟩ ⟨4, ![128, 20, 200, 1]⟩ ⟨4, ![128, 20, 200, 4]⟩ where
  offsetDims := [3]
  collapsedSliceDims := [1]
  operandBatchingDims := [0]
  startIndicesBatchingDims := [0]
  startIndexMap := [1]
  indexVectorDim := 3
  sliceSizes := ![1, 1, 4]
  wf := wf

/-- One table for all images: row `idx[b, c, k]`. -/
abbrev rowsDims (wf : GatherDims.WF ⟨2, ![8732, 4]⟩ ⟨4, ![128, 20, 200, 1]⟩ ⟨4, ![128, 20, 200, 4]⟩ [3] [0] [] [0] [] 3 ![1, 4]) :
    GatherDims ⟨2, ![8732, 4]⟩ ⟨4, ![128, 20, 200, 1]⟩ ⟨4, ![128, 20, 200, 4]⟩ where
  offsetDims := [3]
  collapsedSliceDims := [0]
  operandBatchingDims := []
  startIndicesBatchingDims := []
  startIndexMap := [0]
  indexVectorDim := 3
  sliceSizes := ![1, 4]
  wf := wf

theorem along_at (wf) (x : (⟨3, ![128, 8732, 4]⟩ : Shape).Idx → α) (idx : IVec ⟨4, ![128, 20, 200, 1]⟩ 32) (b : Fin 128) (c : Fin 20) (k : Fin 200) (d : Fin 4)
    (n : Fin 8732) (h : idx (ix4 b c k 0) = BitVec.ofNat 32 n.val) :
    Host.gather (alongDims wf) x idx (ix4 b c k d) = x (ix3 b n d) := by
  unfold Host.gather
  congr 1
  funext a
  refine Fin.ext ?_
  show (alongDims wf).start (ix4 b c k d) idx a + (alongDims wf).batchCoord (ix4 b c k d) a + (alongDims wf).offCoord (ix4 b c k d) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | 1 =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (alongDims wf).startIndexMap from List.mem_singleton.mpr rfl)]
    have hsi : (alongDims wf).siIdx (ix4 b c k d) ⟨List.idxOf (1 : Fin 3) (alongDims wf).startIndexMap,
        List.idxOf_lt_length_iff.2 (List.mem_singleton.mpr rfl)⟩ = ix4 b c k 0 := by
      funext b; refine Fin.ext ?_
      match b with
      | ⟨0, _⟩ => rfl
      | ⟨1, _⟩ => rfl
      | ⟨2, _⟩ => rfl
      | ⟨3, _⟩ => rfl
    rw [hsi, h, Words.toInt_ofNat (by omega)]
    show min ((n.val : ℤ).toNat) (8732 - 1) = n.val
    rw [Int.toNat_natCast]; omega
  | 2 =>
    rw [GatherDims.batchCoord_eq_zero _ _ _ (fun h => by simp at h)]
    unfold GatherDims.start
    rw [dif_neg (fun h => by simp at h)]
    unfold GatherDims.offCoord
    rw [dif_pos ((GatherDims.mem_sKept _ _).mpr ⟨by simp, by simp⟩)]
    show 0 + 0 + d.val = d.val
    omega

theorem rows_at (wf) (x : (⟨2, ![8732, 4]⟩ : Shape).Idx → α) (idx : IVec ⟨4, ![128, 20, 200, 1]⟩ 32) (b : Fin 128) (c : Fin 20) (k : Fin 200) (d : Fin 4)
    (n : Fin 8732) (h : idx (ix4 b c k 0) = BitVec.ofNat 32 n.val) :
    Host.gather (rowsDims wf) x idx (ix4 b c k d) = x (ix2 n d) := by
  unfold Host.gather
  congr 1
  funext a
  refine Fin.ext ?_
  show (rowsDims wf).start (ix4 b c k d) idx a + (rowsDims wf).batchCoord (ix4 b c k d) a + (rowsDims wf).offCoord (ix4 b c k d) a = _
  match a with
  | 0 =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx (ix4 b c k d) ⟨List.idxOf (0 : Fin 2) (rowsDims wf).startIndexMap,
        List.idxOf_lt_length_iff.2 (List.mem_singleton.mpr rfl)⟩ = ix4 b c k 0 := by
      funext b; refine Fin.ext ?_
      match b with
      | ⟨0, _⟩ => rfl
      | ⟨1, _⟩ => rfl
      | ⟨2, _⟩ => rfl
      | ⟨3, _⟩ => rfl
    rw [hsi, h, Words.toInt_ofNat (by omega)]
    show min ((n.val : ℤ).toNat) (8732 - 1) = n.val
    rw [Int.toNat_natCast]; omega
  | 1 =>
    rw [GatherDims.batchCoord_eq_zero _ _ _ (fun h => by simp at h)]
    unfold GatherDims.start
    rw [dif_neg (fun h => by simp at h)]
    unfold GatherDims.offCoord
    rw [dif_pos ((GatherDims.mem_sKept _ _).mpr ⟨by simp, by simp⟩)]
    show 0 + 0 + d.val = d.val
    omega

/-- The word of a position passes the programs' two bound checks, and is not wrapped. -/
theorem wrap_at (n : Fin 8732) (w : BitVec 32) (h : w = BitVec.ofNat 32 n.val) :
    Scalar.select (IntOp.cmpi .slt w 0#32) (IntOp.addi w 8732#32) w = BitVec.ofNat 32 n.val := by
  subst h
  rw [show (0#32 : BitVec 32) = BitVec.ofNat 32 0 from rfl, Words.cmpi_slt (by omega) (by omega), Words.select_ofBool, if_neg (by simp)]

/-- Both bound checks hold of a position's word. -/
theorem bound_at (n : Fin 8732) :
    IntOp.andi (IntOp.cmpi .sge (BitVec.ofNat 32 n.val) 0#32) (IntOp.cmpi .sle (BitVec.ofNat 32 n.val) 8731#32) = 1#1 := by
  rw [show (0#32 : BitVec 32) = BitVec.ofNat 32 0 from rfl, show (8731#32 : BitVec 32) = BitVec.ofNat 32 8731 from rfl,
    Words.cmpi_sge (by omega) (by omega), Words.cmpi_sle (by omega) (by omega), decide_eq_true (by omega), decide_eq_true (by omega)]
  rfl

/-- Conjunction over the one index of a unit axis. -/
theorem fold_unit (f : Fin 1 → BitVec 1) (h : f 0 = 1#1) : Finset.fold IntOp.andi (1#1) f Finset.univ = 1#1 := by
  rw [show (Finset.univ : Finset (Fin 1)) = {0} from rfl, Finset.fold_singleton, h]
  rfl

end Cert.Proof.Gathers
end
-- ==== Proof.RefRead.lean ====
module

public import proofs.«01_k».proof.Proof.RefFrame
public import proofs.«01_k».proof.Proof.Softmax
public import proofs.«01_k».proof.Proof.Gathers
public import Idealize.ShloMosaic.Lib.StableHlo.ReadAt

/-! What the reference's stretches before its loop compute, one place at a time. -/

@[expose] public section

set_option maxRecDepth 16384

noncomputable section

namespace Cert.Proof.RefRead
open Idealize.ShloMosaic Idealize.ShloMosaic.TcCoe Idealize.SL.Sem
open Cert.ReferenceIdeal Cert.ReferenceIdeal.Gen Cert.ReferenceIdeal.Value

variable (U : Valuation τ sig (Elt Ideal))

/-- The foreground scores, classes ahead of boxes, as printed. -/
abbrev ranked (x : FVec Ideal S128x8732x21 .f32) : FVec Ideal S128x20x8732 .f32 :=
  Softmax.ranked reducesTo_S128x8732x21_S128x8732_d2 h_S_ bcast_S_S128x8732 bcast_S128x8732_S128x8732x1_0_1 bcast_S128x8732x1_S128x8732x21_0_1_2
    slices_S128x8732x21_S128x8732x20_0_0_1 transposes_S128x8732x20_S128x20x8732_0_2_1 x

theorem values_eq : StableHlo.after hostOps0 U (Proc.devRef .tc main_values)
    = (Host.topK S128x20x200 2 (FloatOps.cmpfTotal .gt) (ranked (U (Proc.devRef .tc main_arg1))) sliceFits_S128x20x8732_S128x20x200).1 := by
  after_reads_simp
  rfl

theorem v40_at (b : Fin 128) (c : Fin 20) (k : Fin 200) : StableHlo.after hostOps0 U (Proc.devRef .tc main_v40) (ix4 b c k 0)
    = (Host.topK S128x20x200 2 (FloatOps.cmpfTotal .gt) (ranked (U (Proc.devRef .tc main_arg1))) sliceFits_S128x20x8732_S128x20x200).2 (ix3 b c k) := by
  have h : StableHlo.after hostOps0 U (Proc.devRef .tc main_v40)
    = broadcastInDim S128x20x200x1 ![0, 1, 2] bcast_S128x20x200_S128x20x200x1_0_1_2
       (Host.topK S128x20x200 2 (FloatOps.cmpfTotal .gt) (ranked (U (Proc.devRef .tc main_arg1))) sliceFits_S128x20x8732_S128x20x200).2 := by
    after_reads_simp
    rfl
  rw [h]
  generalize (Host.topK S128x20x200 2 (FloatOps.cmpfTotal .gt) (ranked (U (Proc.devRef .tc main_arg1))) sliceFits_S128x20x8732_S128x20x200).2 = I
  pointwise

/-- The decoded boxes, with a unit class axis. -/
theorem v39_at (b : Fin 128) (n : Fin 8732) (d : Fin 4) :
    StableHlo.after hostOps0 U (Proc.devRef .tc main_v39) (ix4 b 0 n d) = Answer.boxes (U (Proc.devRef .tc main_arg0)) (U (Proc.devRef .tc main_arg2)) b n d := by
  after_reads_at
  unfold Answer.boxes Det.corner
  by_cases h : d.val < 2
  · rw [dif_pos h, if_pos h]
    after_reads_at
    match d, h with
    | 0, _ => rfl
    | 1, _ => rfl
  · rw [dif_neg h, if_neg h]
    after_reads_at
    match d, h with
    | 2, _ => rfl
    | 3, _ => rfl
    | 0, h => exact absurd (show (0 : ℕ) < 2 by omega) h
    | 1, h => exact absurd (show (1 : ℕ) < 2 by omega) h

/-- The gathered box is that of the named position. -/
theorem v41_at (b : Fin 128) (c : Fin 20) (k : Fin 200) (d : Fin 4) (n : Fin 8732) (h : U (Proc.devRef .tc main_v40) (ix4 b c k 0) = BitVec.ofNat 32 n.val) :
    StableHlo.after hostOps0_1 U (Proc.devRef .tc main_v41) (ix4 b c k d) = U (Proc.devRef .tc main_v39) (ix4 b 0 n d) := by
  after_reads_at
  refine (congrArg₂ (fun w v => Scalar.select w v _) (Gathers.fold_unit _ ?_) (Gathers.along_at _ _ _ b c k d n ?_)).trans ?_
  · show IntOp.andi (IntOp.cmpi .sge (Scalar.select (IntOp.cmpi .slt (U (Proc.devRef .tc main_v40) (ix4 b c k 0)) 0#32) (IntOp.addi (U (Proc.devRef .tc main_v40) (ix4 b c k 0)) 8732#32) (U (Proc.devRef .tc main_v40) (ix4 b c k 0))) 0#32) (IntOp.cmpi .sle (Scalar.select (IntOp.cmpi .slt (U (Proc.devRef .tc main_v40) (ix4 b c k 0)) 0#32) (IntOp.addi (U (Proc.devRef .tc main_v40) (ix4 b c k 0)) 8732#32) (U (Proc.devRef .tc main_v40) (ix4 b c k 0))) 8731#32) = 1#1
    rw [Gathers.wrap_at n _ h]
    exact Gathers.bound_at n
  · exact Gathers.wrap_at n _ h
  · rfl

end Cert.Proof.RefRead
end
-- ==== Proof.RefIou.lean ====
module

public import proofs.«01_k».proof.Proof.RefRead

/-! The reference's stretches that find every pair's overlap and set up the loop, one place at a time. -/

@[expose] public section

set_option maxRecDepth 16384

noncomputable section

namespace Cert.Proof.RefIou
open Idealize.ShloMosaic Idealize.ShloMosaic.TcCoe Idealize.SL.Sem
open Cert.ReferenceIdeal Cert.ReferenceIdeal.Gen Cert.ReferenceIdeal.Value

/-- A number read from a buffer. -/
abbrev E (x : EReal) : EReal := x

variable (U : Valuation τ sig (Elt Ideal))

/-- The larger of two boxes' left (upper) edges. -/
theorem v48_at (b : Fin 128) (c : Fin 20) (i j : Fin 200) (e : Fin 2) :
    StableHlo.after hostOps0_2 U (Proc.devRef .tc main_v48) (ix5 b c i j e)
      = max (α := EReal) (U (Proc.devRef .tc main_v41) (ix4 b c i ⟨e.val, by omega⟩)) (U (Proc.devRef .tc main_v41) (ix4 b c j ⟨e.val, by omega⟩)) := by
  after_reads_at

/-- The smaller of two boxes' right (lower) edges. -/
theorem v55_at (b : Fin 128) (c : Fin 20) (i j : Fin 200) (e : Fin 2) :
    StableHlo.after hostOps0_2 U (Proc.devRef .tc main_v55) (ix5 b c i j e)
      = min (α := EReal) (U (Proc.devRef .tc main_v41) (ix4 b c i ⟨2 + e.val, by omega⟩)) (U (Proc.devRef .tc main_v41) (ix4 b c j ⟨2 + e.val, by omega⟩)) := by
  after_reads_at

/-- Their difference. -/
theorem v56_at (b : Fin 128) (c : Fin 20) (i j : Fin 200) (e : Fin 2) :
    StableHlo.after hostOps0_2 U (Proc.devRef .tc main_v56) (ix5 b c i j e)
      = (min (α := EReal) (U (Proc.devRef .tc main_v41) (ix4 b c i ⟨2 + e.val, by omega⟩)) (U (Proc.devRef .tc main_v41) (ix4 b c j ⟨2 + e.val, by omega⟩))
        - max (α := EReal) (U (Proc.devRef .tc main_v41) (ix4 b c i ⟨e.val, by omega⟩)) (U (Proc.devRef .tc main_v41) (ix4 b c j ⟨e.val, by omega⟩)) : EReal) := by
  after_reads_at

/-- The clip's bound. -/
theorem cst6_at : StableHlo.after hostOps0_2 U (Proc.devRef .tc main_cst_6) ix0 = (0 : EReal) := by
  after_reads_at

/-- The shared extent. -/
theorem v57_at (b : Fin 128) (c : Fin 20) (i j : Fin 200) (e : Fin 2) :
    StableHlo.after hostOps0_3 U (Proc.devRef .tc main_v57) (ix5 b c i j e)
      = max (α := EReal) (U (Proc.devRef .tc main_cst_6) ix0) (U (Proc.devRef .tc main_v56) (ix5 b c i j e)) := by
  after_reads_at
  rfl

/-- The shared width. -/
theorem v59_at (b : Fin 128) (c : Fin 20) (i j : Fin 200) :
    StableHlo.after hostOps0_4 U (Proc.devRef .tc main_v59) (ix4 b c i j) = U (Proc.devRef .tc main_v57) (ix5 b c i j 0) := by
  after_reads_at

/-- The difference, found again for the height. -/
theorem v60_at (b : Fin 128) (c : Fin 20) (i j : Fin 200) (e : Fin 2) :
    StableHlo.after hostOps0_4 U (Proc.devRef .tc main_v60) (ix5 b c i j e)
      = E (U (Proc.devRef .tc main_v55) (ix5 b c i j e)) - E (U (Proc.devRef .tc main_v48) (ix5 b c i j e)) := by
  after_reads_at

/-- The clip's bound, again. -/
theorem cst7_at : StableHlo.after hostOps0_4 U (Proc.devRef .tc main_cst_7) ix0 = (0 : EReal) := by
  after_reads_at

/-- The shared extent, again. -/
theorem v61_at (b : Fin 128) (c : Fin 20) (i j : Fin 200) (e : Fin 2) :
    StableHlo.after hostOps0_5 U (Proc.devRef .tc main_v61) (ix5 b c i j e)
      = max (α := EReal) (U (Proc.devRef .tc main_cst_7) ix0) (U (Proc.devRef .tc main_v60) (ix5 b c i j e)) := by
  after_reads_at
  rfl

/-- The overlap as the loop carries it, from the widths, the extents and the boxes. -/
theorem v94_0_at (i : Fin 200) (b : Fin 128) (c : Fin 20) (j : Fin 200) :
    StableHlo.after hostOps0_6 U (Proc.devRef .tc main_v94_0) (ix4 i b c j)
      = Ideal.div (E (U (Proc.devRef .tc main_v59) (ix4 b c i j)) * E (U (Proc.devRef .tc main_v61) (ix5 b c i j 1)))
        (max (Det.area (fun d => U (Proc.devRef .tc main_v41) (ix4 b c i d)) + Det.area (fun d => U (Proc.devRef .tc main_v41) (ix4 b c j d))
          - E (U (Proc.devRef .tc main_v59) (ix4 b c i j)) * E (U (Proc.devRef .tc main_v61) (ix5 b c i j 1))) (Ideal.ofBits .f32 0x2B8CBCCC#32)) := by
  after_reads_at
  pointwise [id_eq]
  rfl

/-- The scores as the loop carries them. -/
theorem v94_1_at (i : Fin 200) (b : Fin 128) (c : Fin 20) :
    StableHlo.after hostOps0_6 U (Proc.devRef .tc main_v94_1) (ix3 i b c) = U (Proc.devRef .tc main_values) (ix3 b c i) := by
  after_reads_at
  pointwise [id_eq]

/-- The candidates' numbers. -/
theorem v94_2_at (i : Fin 200) :
    StableHlo.after hostOps0_6 U (Proc.devRef .tc main_v94_2) (ix1 i) = BitVec.ofNat 32 i.val := by
  after_reads_at
  pointwise [id_eq]

/-- The candidates' numbers, again. -/
theorem v94_3_at (i : Fin 200) :
    StableHlo.after hostOps0_6 U (Proc.devRef .tc main_v94_3) (ix1 i) = BitVec.ofNat 32 i.val := by
  after_reads_at
  pointwise [id_eq]

/-- The trip counter starts at zero. -/
theorem v94_4_at : StableHlo.after hostOps0_6 U (Proc.devRef .tc main_v94_4) ix0 = 0#32 := by
  after_reads_at
  rfl

/-- Nothing is suppressed at first. -/
theorem v94_5_at (b : Fin 128) (c : Fin 20) (j : Fin 200) :
    StableHlo.after hostOps0_6 U (Proc.devRef .tc main_v94_5) (ix3 b c j) = 0#1 := by
  after_reads_at
  pointwise [id_eq]

end Cert.Proof.RefIou
end
-- ==== Proof.PickBlock.lean ====
/- What one grid point of the selection kernel leaves in its two output blocks: the values and positions that 200
   trips of "take the row's maximum, note it, overwrite it" collect. -/
module

public import proofs.«01_k».proof.Proof.Gen.KernelIdeal.Frame
public import Idealize.ShloMosaic.Lib.Pipeline.Value
public import Idealize.ShloMosaic.Lib.WritesUnit
public import Idealize.ShloMosaic.Lib.Tactic

@[expose] public section

set_option maxRecDepth 16384

noncomputable section

namespace Cert.Proof.PickBlock
open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose newest store covers it whole reads that store's payload. -/
theorem read_newest {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  funext fun y => View.read_writes_cons_unit_of_mem v f inb w L y y h (fun a => (Nat.zero_add _).symm)

/-- The scores' scratch before trip `k`: the padded scores, each trip having overwritten one element of every row. -/
def scr (x : Vec F S1x21x8960 .f32) : ℕ → Vec F S20x8960 .f32
  | 0 => k0_pay1 x
  | k + 1 => k0_pay7 (scr x k)

/-- The collected values before trip `k`. -/
def accS (x : Vec F S1x21x8960 .f32) : ℕ → FVec F S20x200 .f32
  | 0 => k0_pay2
  | k + 1 => if h : k < k0_t1_loop.trips then k0_pay5 ⟨k, h⟩ (accS x k) (scr x k) else accS x k

/-- The collected positions before trip `k`. -/
def accI (x : Vec F S1x21x8960 .f32) : ℕ → IVec S20x200 32
  | 0 => k0_pay3
  | k + 1 => if h : k < k0_t1_loop.trips then k0_pay6 ⟨k, h⟩ (accI x k) (scr x k) else accI x k

section Body

variable (𝒱 : Variants) (c : Dev nD) (bd : Option 𝒱.V) (i : grid0.Coords) (arg1 : Memref sig .tc .vmem S1x21x8960 .f32) (harg1 : arg1.IsWhole)
    (arg2 : Memref sig .tc .vmem S1x20x200 .f32) (harg2 : arg2.IsWhole) (arg3 : Memref sig .tc .vmem S1x20x200 .i32) (harg3 : arg3.IsWhole)
    (arg4 : Memref sig .tc .vmem S20x8960 .f32) (harg4 : arg4.IsWhole)

/-- One trip's collected values and positions, as functions of what it finds in the scratch. -/
theorem tripR_eq (k : Fin k0_t1_loop.trips)
    (acc : FVec F S20x200 .f32 × IVec S20x200 32) (f : BufTy.Contents (Elt F) arg4.view.ty) :
    tripR_k0_t1 𝒱 c bd i arg1 harg1 arg2 harg2 arg3 harg3 arg4 harg4 k acc f
      = (k0_pay5 k acc.1 (arg4.view.read (Elt F) f), k0_pay6 k acc.2 (arg4.view.read (Elt F) f)) := by
  unfold tripR_k0_t1 trip_k0_t1
  dsimp only
  simp only [View.readAt_eq_ld, View.ld_unit_zero (S := S20x8960) hz2]

/-- One trip's scratch, as a function of what it finds there. -/
theorem tripL_eq (k : Fin k0_t1_loop.trips)
    (acc : FVec F S20x200 .f32 × IVec S20x200 32) (f g : BufTy.Contents (Elt F) arg4.view.ty) (ps : List (View.Piece (Elt F) S20x8960 .f32)) :
    arg4.view.read (Elt F) (arg4.view.writes (Elt F) g (tripL_k0_t1 𝒱 c bd i arg1 harg1 arg2 harg2 arg3 harg3 arg4 harg4 k acc f ++ ps))
      = k0_pay7 (arg4.view.read (Elt F) f) := by
  unfold tripL_k0_t1 trip_k0_t1
  dsimp only
  rw [List.singleton_append]
  refine (read_newest arg4.view g hz2 _ _ ps).trans ?_
  simp only [View.readAt_eq_ld, View.ld_unit_zero (S := S20x8960) hz2]

/-- The loop's state before trip `k`. -/
theorem st_eq (x : Vec F S1x21x8960 .f32) (G : BufTy.Contents (Elt F) arg4.view.ty) (hG : arg4.view.read (Elt F) G = k0_pay1 x) :
    ∀ k, k ≤ k0_t1_loop.trips →
      (st_k0_t1 𝒱 c bd i arg1 harg1 arg2 harg2 arg3 harg3 arg4 harg4 G (k0_pay2, k0_pay3) k).1 = (accS x k, accI x k)
      ∧ arg4.view.read (Elt F) (arg4.view.writes (Elt F) G
          (st_k0_t1 𝒱 c bd i arg1 harg1 arg2 harg2 arg3 harg3 arg4 harg4 G (k0_pay2, k0_pay3) k).2) = scr x k
  | 0, _ => ⟨rfl, hG⟩
  | k + 1, hk => by
    obtain ⟨h1, h2⟩ := st_eq x G hG k (Nat.le_of_succ_le hk)
    have hs := st_k0_t1_succ 𝒱 c bd i arg1 harg1 arg2 harg2 arg3 harg3 arg4 harg4 G (k0_pay2, k0_pay3) ⟨k, hk⟩
    dsimp only at hs
    rw [hs]
    refine ⟨?_, ?_⟩
    · dsimp only
      rw [tripR_eq, h1, h2]
      dsimp only
      rw [accS, accI, dif_pos (show k < _ from hk), dif_pos (show k < _ from hk)]
    · dsimp only
      rw [tripL_eq, h2, scr]

end Body

section Out

variable (c : Dev nD) (i : grid0.Coords) (arg1 : Memref sig .tc .vmem S1x21x8960 .f32) (harg1 : arg1.IsWhole)
    (arg2 : Memref sig .tc .vmem S1x20x200 .f32) (harg2 : arg2.IsWhole) (arg3 : Memref sig .tc .vmem S1x20x200 .i32) (harg3 : arg3.IsWhole)
    (arg4 : Memref sig .tc .vmem S20x8960 .f32) (harg4 : arg4.IsWhole) (x : Vec F S1x21x8960 .f32)

/-- The values' block after the grid point. -/
theorem out1 : out0_A_1 c i arg1 harg1 arg2 harg2 arg3 harg3 arg4 harg4 x = k0_pay8 (accS x 200) := by
  unfold out0_A_1
  rw [View.read_writes_eq_canon _ _ _ (cover0_A_1 c i arg1 harg1 arg2 harg2 arg3 harg3 arg4 harg4 x)]
  unfold kernelRun0_A
  dsimp only
  rw [View.canon_unit_zero (S := S1x20x200) hz3]
  sl_unfold_words
  congr 1
  refine congrArg Prod.fst ((st_eq Variants.none c none i arg1 harg1 arg2 harg2 arg3 harg3 arg4 harg4 x _ ?_ 200 (by decide +kernel)).1)
  refine (read_newest arg4.view _ hz2 _ _ []).trans ?_
  simp only [View.readAt_eq_ld, harg1.read_unread, View.ld_unit_zero (S := S1x21x8960) hz3]

/-- The positions' block after the grid point. -/
theorem out2 : out0_A_2 c i arg1 harg1 arg2 harg2 arg3 harg3 arg4 harg4 x = k0_pay9 (accI x 200) := by
  unfold out0_A_2
  rw [View.read_writes_eq_canon _ _ _ (cover0_A_2 c i arg1 harg1 arg2 harg2 arg3 harg3 arg4 harg4 x)]
  unfold kernelRun0_A
  dsimp only
  rw [View.canon_unit_zero (S := S1x20x200) hz3]
  sl_unfold_words
  congr 1
  refine congrArg Prod.snd ((st_eq Variants.none c none i arg1 harg1 arg2 harg2 arg3 harg3 arg4 harg4 x _ ?_ 200 (by decide +kernel)).1)
  refine (read_newest arg4.view _ hz2 _ _ []).trans ?_
  simp only [View.readAt_eq_ld, harg1.read_unread, View.ld_unit_zero (S := S1x21x8960) hz3]

end Out

end Cert.Proof.PickBlock
end
-- ==== Proof.PickRead.lean ====
/- The selection kernel's block, read at an index over the extended reals: the scratch holds at trip `k` the padded
   scores with the first `k` found places overwritten, so what it collects are the greatest scores and their places. -/
module

public import proofs.«01_k».proof.Proof.PickBlock
public import proofs.«01_k».proof.Proof.TopPick
public import proofs.«01_k».proof.Proof.Words
public import Idealize.ShloMosaic.Lib.Pointwise

@[expose] public section

set_option maxRecDepth 16384

noncomputable section

namespace Cert.Proof.PickRead
open Idealize.ShloMosaic Idealize.ShloMosaic.TcCoe
open Cert.KernelIdeal Cert.KernelIdeal.Gen Cert.Proof.PickBlock Cert.Proof.Det Cert.Proof.TopPick Cert.Proof.Words

/-- The logits of a block's position `n`. -/
abbrev blockLogits (x : Vec Ideal S1x21x8960 .f32) (n : Fin 8732) (ch : Fin 21) : EReal := x (ix3 0 ch ⟨n.val, by omega⟩)

/-- The padded scores: the softmax at the positions, minus one at the padding. -/
theorem pay1_at (x : Vec Ideal S1x21x8960 .f32) (c : Fin 20) (l : Fin 8960) :
    k0_pay1 (F := Ideal) x (ix2 c l) = if h : l.val < 8732 then classScores (blockLogits x) c ⟨l.val, h⟩ else -1 := by
  pointwise [k0_pay1]
  rw [show (8732#32 : BitVec 32) = BitVec.ofNat 32 8732 from rfl, cmpi_slt (by omega) (by omega), select_ofBool,
    ofBits_neg_one, ofBits_neg_inf]
  by_cases h : l.val < 8732
  · rw [dif_pos h, if_pos (decide_eq_true h)]; rfl
  · rw [dif_neg h, if_neg (by simpa using h)]

/-- The least coordinate of a set of one index is its own. -/
theorem fin_of_singleton (s : Finset S20x8960.Idx) (c : Fin 20) (p : Fin 8960) (h : s = {ix2 c p}) :
    BitVec.ofNat 32 (Option.getD (s.image fun i => (i 1).val).min 0) = BitVec.ofNat 32 p.val := by
  subst h
  exact congrArg (fun o : WithTop ℕ => BitVec.ofNat 32 (Option.getD o 0))
    ((congrArg Finset.min (Finset.image_singleton _ _)).trans (Finset.min_singleton (a := p.val)))

/-- Where one place of a row holds more than every other, the arg-max is that place. -/
theorem pay4_at (x : Vec Ideal S20x8960 .f32) (c : Fin 20) (p : Fin 8960)
    (h : ∀ l, l ≠ p → x (ix2 c l) < x (ix2 c p)) : k0_pay4 (F := Ideal) x (ix2 c 0) = BitVec.ofNat 32 p.val := by
  pointwise [k0_pay4]
  show Ideal.reduceIndex .argMax 1 reduces_S20x8960_S20 x (ix1 c) = _
  have hdrop : ∀ (a : Fin 20) (l : Fin 8960), (Shape.Reduces.drop reduces_S20x8960_S20 (ix2 a l) = ix1 c) ↔ a = c := by
    intro a l
    constructor
    · intro he
      have := congrArg Fin.val (congrFun he 0)
      rw [Shape.Reduces.drop_apply_val_of_eq reduces_S20x8960_S20 (ix2 a l) 0 0 (by decide)] at this
      exact Fin.ext this
    · rintro rfl
      funext b
      obtain rfl : b = 0 := Subsingleton.elim _ _
      apply Fin.ext
      rw [Shape.Reduces.drop_apply_val_of_eq reduces_S20x8960_S20 (ix2 a l) 0 0 (by decide)]
      rfl
  unfold Ideal.reduceIndex
  dsimp only
  refine fin_of_singleton _ c p ?_
  ext i
  obtain ⟨a, l, rfl⟩ : ∃ (a : Fin 20) (l : Fin 8960), i = ix2 a l := ⟨i 0, i 1, eq_ix2 i⟩
  simp only [Finset.mem_filter, Finset.mem_univ, true_and, if_true, Finset.mem_singleton, hdrop]
  constructor
  · rintro ⟨rfl, hm⟩
    by_cases hl : l = p
    · rw [hl]
    · exact absurd (h l hl) (hm (ix2 a p) ((hdrop a p).mpr rfl))
  · intro he
    have h0 : a = c := congrFun he 0
    have h1 : l = p := congrFun he 1
    subst h0 h1
    refine ⟨rfl, fun i' hi' => ?_⟩
    obtain ⟨a', l', rfl⟩ : ∃ (a : Fin 20) (l : Fin 8960), i' = ix2 a l := ⟨i' 0, i' 1, eq_ix2 i'⟩
    obtain rfl := (hdrop a' l').mp hi'
    by_cases hl : l' = l
    · rw [hl]; exact lt_irrefl _
    · exact not_lt.mpr (h l' hl).le

/-- The scratch before trip `k`. -/
theorem scr_at (x : Vec Ideal S1x21x8960 .f32) (c : Fin 20) (hs : Strict (classScores (blockLogits x) c))
    (h0 : NonNeg (classScores (blockLogits x) c)) : ∀ k, k ≤ 200 → ∀ l : Fin 8960,
      scr (F := Ideal) x k (ix2 c l) = row (classScores (blockLogits x) c) k l
  | 0, _, l => by
    rw [scr, pay1_at, row]
    by_cases h : l.val < 8732
    · rw [dif_pos h, dif_pos h, if_neg (by rintro ⟨i, hi, -⟩; exact absurd hi (Nat.not_lt_zero _))]
    · rw [dif_neg h, dif_neg h]
  | k + 1, hk, l => by
    have ih := scr_at x c hs h0 k (by omega)
    have hp := pay4_at (scr x k) c (place (classScores (blockLogits x) c) ⟨k, hk⟩) (fun l hl => by
      rw [ih, ih, row_place (k := ⟨k, hk⟩)]; exact row_lt hs h0 ⟨k, hk⟩ l hl)
    have hrow := row_succ (g := classScores (blockLogits x) c) ⟨k, hk⟩ l
    dsimp only at hrow
    rw [scr, hrow, ← ih l]
    pointwise [k0_pay7]
    rw [hp, cmpi_eq (by omega) (by omega), select_ofBool, ofBits_neg_one]
    refine if_congr ?_ rfl rfl
    rw [decide_eq_true_iff, Fin.ext_iff]

/-- What trip `k` finds. -/
theorem pay4_scr (x : Vec Ideal S1x21x8960 .f32) (c : Fin 20) (hs : Strict (classScores (blockLogits x) c))
    (h0 : NonNeg (classScores (blockLogits x) c)) (k : Fin 200) :
    k0_pay4 (F := Ideal) (scr x k) (ix2 c 0) = BitVec.ofNat 32 (topPos (classScores (blockLogits x) c) ⟨k, by omega⟩).val :=
  pay4_at (scr x k) c (place (classScores (blockLogits x) c) k) (fun l hl => by
      rw [scr_at x c hs h0 k (by omega), scr_at x c hs h0 k (by omega), row_place]; exact row_lt hs h0 k l hl)

/-- The collected values: before trip `k`, those found so far. -/
theorem accS_at (x : Vec Ideal S1x21x8960 .f32) (c : Fin 20) (hs : Strict (classScores (blockLogits x) c))
    (h0 : NonNeg (classScores (blockLogits x) c)) (r : Fin 200) : ∀ k, k ≤ 200 → r.val < k →
      accS (F := Ideal) x k (ix2 c r) = classScores (blockLogits x) c (topPos (classScores (blockLogits x) c) ⟨r, by omega⟩)
  | 0, _, h => absurd h (Nat.not_lt_zero _)
  | k + 1, hk, h => by
    have ht : k < k0_t1_loop.trips := lt_of_lt_of_le (Nat.lt_of_succ_le hk) (by decide +kernel)
    rw [accS, dif_pos ht]
    pointwise [k0_pay5]
    rw [iv_eq, cmpi_eq (by omega) (by omega), select_ofBool, ofBits_neg_inf]
    by_cases hr : r.val = k
    · rw [if_pos (decide_eq_true hr)]
      have := row_max hs h0 ⟨k, hk⟩
      rw [show (⟨r.val, by omega⟩ : Fin 8732) = ⟨k, by omega⟩ from Fin.ext hr, ← this]
      exact Finset.fold_congr fun l _ => scr_at x c hs h0 k (by omega) l
    · rw [if_neg (by simpa using hr)]
      exact accS_at x c hs h0 r k (by omega) (by omega)

/-- The collected positions: before trip `k`, those found so far. -/
theorem accI_at (x : Vec Ideal S1x21x8960 .f32) (c : Fin 20) (hs : Strict (classScores (blockLogits x) c))
    (h0 : NonNeg (classScores (blockLogits x) c)) (r : Fin 200) : ∀ k, k ≤ 200 → r.val < k →
      accI (F := Ideal) x k (ix2 c r) = BitVec.ofNat 32 (topPos (classScores (blockLogits x) c) ⟨r, by omega⟩).val
  | 0, _, h => absurd h (Nat.not_lt_zero _)
  | k + 1, hk, h => by
    have ht : k < k0_t1_loop.trips := lt_of_lt_of_le (Nat.lt_of_succ_le hk) (by decide +kernel)
    rw [accI, dif_pos ht]
    pointwise [k0_pay6]
    rw [iv_eq, cmpi_eq (by omega) (by omega), select_ofBool]
    by_cases hr : r.val = k
    · rw [if_pos (decide_eq_true hr), pay4_scr x c hs h0 ⟨k, hk⟩]
      rw [show (⟨r.val, by omega⟩ : Fin 8732) = ⟨k, by omega⟩ from Fin.ext hr]
    · rw [if_neg (by simpa using hr)]
      exact accI_at x c hs h0 r k (by omega) (by omega)

end Cert.Proof.PickRead
end
-- ==== Proof.NmsRows.lean ====
module

public import proofs.«01_k».proof.Proof.PickRead

/-! The overlap table, block by block: the suppression kernel fills its table eight rows at a time, in twenty-five
    unrolled steps; each step stores the same formula of the corners and the areas, at its own rows. -/

@[expose] public section

set_option maxRecDepth 16384

noncomputable section

namespace Cert.Proof.NmsRows
open Idealize.ShloMosaic Idealize.ShloMosaic.TcCoe
open Cert.KernelIdeal Cert.KernelIdeal.Gen

/-- The overlap of boxes `i` and `j` of image `b`, from the four corner planes and the plane of areas. -/
def pair (v36 v39 v42 v45 v48 : FVec Ideal S200x128 .f32) (i j : Fin 200) (b : Fin 128) : EReal :=
  let w := max (min (v42 (ix2 i b)) (v42 (ix2 j b)) - max (v36 (ix2 i b)) (v36 (ix2 j b))) 0
  let h := max (min (v45 (ix2 i b)) (v45 (ix2 j b)) - max (v39 (ix2 i b)) (v39 (ix2 j b))) 0
  Ideal.div (w * h) (max (v48 (ix2 i b) + v48 (ix2 j b) - w * h) (Ideal.ofBits .f32 0x2B8CBCCC#32))

/-- Rows 0 to 7 of the table. -/
theorem row0 (v5 v7 v9 v13 v15 v17 v21 : FVec Ideal S200x128 .f32) (z : Ideal .f32) (r : Fin 8) (j : Fin 200) (b : Fin 128) :
    k1_pay23 (k1_pay18 v5 v7 v9 v13 v15 v17 v21 z) (k1_pay19 v5 v9 v13 v17 z) (k1_pay20 v5 v9 v13 v17 z) (k1_pay21 v7 v15 v21) (k1_pay22 (F := Ideal)) (ix3 r j b)
      = pair (k1_pay14 v7 v15 v21) (k1_pay15 v5 v9 v13 v17 z) (k1_pay16 v7 v15 v21) (k1_pay17 v5 v9 v13 v17 z) (k1_pay18 v5 v7 v9 v13 v15 v17 v21 z) ⟨r.val, by omega⟩ j b := by
  generalize hg : k1_pay18 v5 v7 v9 v13 v15 v17 v21 z = g
  pointwise [k1_pay23, k1_pay19, k1_pay20, k1_pay21, k1_pay22, pair]

variable (v36 v39 v42 v45 v48 : FVec Ideal S200x128 .f32) (r : Fin 8) (j : Fin 200) (b : Fin 128)

/-- Rows 8 to 15 of the table. -/
theorem row1 : k1_pay27 (k1_pay24 v36 v39 v42 v45) (k1_pay25 v48) (k1_pay26 v48) (ix3 r j b) = pair v36 v39 v42 v45 v48 ⟨8 + r.val, by omega⟩ j b := by
  pointwise [k1_pay24, k1_pay25, k1_pay26, k1_pay27, pair]

/-- Rows 16 to 23 of the table. -/
theorem row2 : k1_pay29 (k1_pay28 v36 v39 v42 v45 v48) (ix3 r j b) = pair v36 v39 v42 v45 v48 ⟨16 + r.val, by omega⟩ j b := by
  pointwise [k1_pay28, k1_pay29, pair]

/-- Rows 24 to 31 of the table. -/
theorem row3 : k1_pay30 v36 v39 v42 v45 v48 (ix3 r j b) = pair v36 v39 v42 v45 v48 ⟨24 + r.val, by omega⟩ j b := by
  pointwise [k1_pay30, pair]

/-- Rows 32 to 39 of the table. -/
theorem row4 : k1_pay33 v39 v42 v45 v48 (k1_pay31 v36) (k1_pay32 v36) (ix3 r j b) = pair v36 v39 v42 v45 v48 ⟨32 + r.val, by omega⟩ j b := by
  pointwise [k1_pay31, k1_pay32, k1_pay33, pair]

/-- Rows 40 to 47 of the table. -/
theorem row5 : k1_pay36 v42 v45 v48 (k1_pay34 v36) (k1_pay35 v39) (ix3 r j b) = pair v36 v39 v42 v45 v48 ⟨40 + r.val, by omega⟩ j b := by
  pointwise [k1_pay34, k1_pay35, k1_pay36, pair]

/-- Rows 48 to 55 of the table. -/
theorem row6 : k1_pay42 v48 (k1_pay37 v36) (k1_pay38 v39) (k1_pay39 v42) (k1_pay40 v45) (k1_pay41 v45) (ix3 r j b) = pair v36 v39 v42 v45 v48 ⟨48 + r.val, by omega⟩ j b := by
  pointwise [k1_pay37, k1_pay38, k1_pay39, k1_pay40, k1_pay41, k1_pay42, pair]

/-- Rows 56 to 63 of the table. -/
theorem row7 : k1_pay45 v48 (k1_pay43 v36 v42) (k1_pay44 v39 v45) (FloatOps.ofBits .f32 0x00000000#32) (ix3 r j b) = pair v36 v39 v42 v45 v48 ⟨56 + r.val, by omega⟩ j b := by
  pointwise [k1_pay43, k1_pay44, k1_pay45, pair]

/-- Rows 64 to 71 of the table. -/
theorem row8 : k1_pay48 (k1_pay46 v36 v39 v42 v45) (k1_pay47 v48) (ix3 r j b) = pair v36 v39 v42 v45 v48 ⟨64 + r.val, by omega⟩ j b := by
  pointwise [k1_pay46, k1_pay47, k1_pay48, pair]

/-- Rows 72 to 79 of the table. -/
theorem row9 : k1_pay50 (k1_pay49 v36 v39 v42 v45 v48) (ix3 r j b) = pair v36 v39 v42 v45 v48 ⟨72 + r.val, by omega⟩ j b := by
  pointwise [k1_pay49, k1_pay50, pair]

/-- Rows 80 to 87 of the table. -/
theorem row10 : k1_pay51 v36 v39 v42 v45 v48 (ix3 r j b) = pair v36 v39 v42 v45 v48 ⟨80 + r.val, by omega⟩ j b := by
  pointwise [k1_pay51, pair]

/-- Rows 88 to 95 of the table. -/
theorem row11 : k1_pay53 v39 v42 v45 v48 (k1_pay52 v36) (ix3 r j b) = pair v36 v39 v42 v45 v48 ⟨88 + r.val, by omega⟩ j b := by
  pointwise [k1_pay52, k1_pay53, pair]

/-- Rows 96 to 103 of the table. -/
theorem row12 : k1_pay58 v45 v48 (k1_pay54 v36) (k1_pay55 v39) (k1_pay56 v42) (k1_pay57 v42) (ix3 r j b) = pair v36 v39 v42 v45 v48 ⟨96 + r.val, by omega⟩ j b := by
  pointwise [k1_pay54, k1_pay55, k1_pay56, k1_pay57, k1_pay58, pair]

/-- Rows 104 to 111 of the table. -/
theorem row13 : k1_pay63 v48 (k1_pay59 v36) (k1_pay60 v39) (k1_pay61 v42) (k1_pay62 v45) (ix3 r j b) = pair v36 v39 v42 v45 v48 ⟨104 + r.val, by omega⟩ j b := by
  pointwise [k1_pay59, k1_pay60, k1_pay61, k1_pay62, k1_pay63, pair]

/-- Rows 112 to 119 of the table. -/
theorem row14 : k1_pay65 v48 (k1_pay64 v36 v39 v42 v45) (ix3 r j b) = pair v36 v39 v42 v45 v48 ⟨112 + r.val, by omega⟩ j b := by
  pointwise [k1_pay64, k1_pay65, pair]

/-- Rows 120 to 127 of the table. -/
theorem row15 : k1_pay69 (k1_pay66 v36 v39 v42 v45) (k1_pay67 v36 v39 v42 v45 v48) (k1_pay68 (F := Ideal)) (ix3 r j b) = pair v36 v39 v42 v45 v48 ⟨120 + r.val, by omega⟩ j b := by
  pointwise [k1_pay66, k1_pay67, k1_pay68, k1_pay69, pair]

/-- Rows 128 to 135 of the table. -/
theorem row16 : k1_pay70 v36 v39 v42 v45 v48 (ix3 r j b) = pair v36 v39 v42 v45 v48 ⟨128 + r.val, by omega⟩ j b := by
  pointwise [k1_pay70, pair]

/-- Rows 136 to 143 of the table. -/
theorem row17 : k1_pay71 v36 v39 v42 v45 v48 (ix3 r j b) = pair v36 v39 v42 v45 v48 ⟨136 + r.val, by omega⟩ j b := by
  pointwise [k1_pay71, pair]

/-- Rows 144 to 151 of the table. -/
theorem row18 : k1_pay75 v42 v45 v48 (k1_pay72 v36) (k1_pay73 v39) (k1_pay74 v39) (ix3 r j b) = pair v36 v39 v42 v45 v48 ⟨144 + r.val, by omega⟩ j b := by
  pointwise [k1_pay72, k1_pay73, k1_pay74, k1_pay75, pair]

/-- Rows 152 to 159 of the table. -/
theorem row19 : k1_pay79 v45 v48 (k1_pay76 v36) (k1_pay77 v39) (k1_pay78 v42) (ix3 r j b) = pair v36 v39 v42 v45 v48 ⟨152 + r.val, by omega⟩ j b := by
  pointwise [k1_pay76, k1_pay77, k1_pay78, k1_pay79, pair]

/-- Rows 160 to 167 of the table. -/
theorem row20 : k1_pay84 v48 (k1_pay80 v39) (k1_pay81 v45) (k1_pay82 v36 v42) (k1_pay83 (F := Ideal)) (ix3 r j b) = pair v36 v39 v42 v45 v48 ⟨160 + r.val, by omega⟩ j b := by
  pointwise [k1_pay80, k1_pay81, k1_pay82, k1_pay83, k1_pay84, pair]

/-- Rows 168 to 175 of the table. -/
theorem row21 : k1_pay88 (k1_pay85 v36 v39 v42 v45) (k1_pay86 v48) (k1_pay87 v48) (ix3 r j b) = pair v36 v39 v42 v45 v48 ⟨168 + r.val, by omega⟩ j b := by
  pointwise [k1_pay85, k1_pay86, k1_pay87, k1_pay88, pair]

/-- Rows 176 to 183 of the table. -/
theorem row22 : k1_pay90 (k1_pay89 v36 v39 v42 v45 v48) (ix3 r j b) = pair v36 v39 v42 v45 v48 ⟨176 + r.val, by omega⟩ j b := by
  pointwise [k1_pay89, k1_pay90, pair]

/-- Rows 184 to 191 of the table. -/
theorem row23 : k1_pay91 v36 v39 v42 v45 v48 (ix3 r j b) = pair v36 v39 v42 v45 v48 ⟨184 + r.val, by omega⟩ j b := by
  pointwise [k1_pay91, pair]

/-- Rows 192 to 199 of the table. -/
theorem row24 : k1_pay94 v39 v42 v45 v48 (k1_pay92 v36) (k1_pay93 v36) (ix3 r j b) = pair v36 v39 v42 v45 v48 ⟨192 + r.val, by omega⟩ j b := by
  pointwise [k1_pay92, k1_pay93, k1_pay94, pair]

end Cert.Proof.NmsRows
end
-- ==== Proof.NmsBlock.lean ====
module

public import proofs.«01_k».proof.Proof.NmsRows

/-! The suppression kernel's body at one grid point, as plain functions of its three input blocks: the corner planes, the
    overlap table its twenty-five stores leave, the suppression flags its loop carries, and the two blocks it writes. -/

@[expose] public section

set_option maxRecDepth 16384

noncomputable section

namespace Cert.Proof.NmsBlock
open Idealize.ShloMosaic Idealize.ShloMosaic.TcCoe Idealize.SL.Sem
open Cert.KernelIdeal Cert.KernelIdeal.Gen Cert.Proof.PickBlock Cert.Proof.NmsRows

/-- Channel `a` of a block of four coordinates. -/
def plane (x : Vec Ideal S1x4x200x128 .f32) (a : Fin 4) : Vec Ideal S1x1x200x128 .f32 := fun y => x (ix4 0 a (y 2) (y 3))

/-- Row `k` of the table. -/
def tableRow (T : Vec Ideal S200x200x128 .f32) (k : Fin 200) : Vec Ideal S1x200x128 .f32 := fun y => T (ix3 k (y 1) (y 2))

/-- The boxes' left edges. -/
def X1 (x1 x2 : Vec Ideal S1x4x200x128 .f32) : FVec Ideal S200x128 .f32 :=
  k1_pay14 (k1_pay5 (plane x1 2)) (k1_pay8 (plane x2 2)) (k1_pay10 (plane x1 0) (plane x2 0) (plane x2 2))
/-- The boxes' right edges. -/
def X2 (x1 x2 : Vec Ideal S1x4x200x128 .f32) : FVec Ideal S200x128 .f32 :=
  k1_pay16 (k1_pay5 (plane x1 2)) (k1_pay8 (plane x2 2)) (k1_pay10 (plane x1 0) (plane x2 0) (plane x2 2))
/-- The boxes' upper edges. -/
def Y1 (x1 x2 : Vec Ideal S1x4x200x128 .f32) : FVec Ideal S200x128 .f32 :=
  k1_pay15 (k1_pay4 (plane x1 1)) (k1_pay6 (plane x1 3)) (k1_pay7 (plane x2 1)) (k1_pay9 (plane x2 3)) (FloatOps.ofBits .f32 0x3DCCCCCD#32)
/-- The boxes' lower edges. -/
def Y2 (x1 x2 : Vec Ideal S1x4x200x128 .f32) : FVec Ideal S200x128 .f32 :=
  k1_pay17 (k1_pay4 (plane x1 1)) (k1_pay6 (plane x1 3)) (k1_pay7 (plane x2 1)) (k1_pay9 (plane x2 3)) (FloatOps.ofBits .f32 0x3DCCCCCD#32)
/-- The boxes' areas. -/
def AR (x1 x2 : Vec Ideal S1x4x200x128 .f32) : FVec Ideal S200x128 .f32 :=
  k1_pay18 (k1_pay4 (plane x1 1)) (k1_pay5 (plane x1 2)) (k1_pay6 (plane x1 3)) (k1_pay7 (plane x2 1)) (k1_pay8 (plane x2 2)) (k1_pay9 (plane x2 3)) (k1_pay10 (plane x1 0) (plane x2 0) (plane x2 2)) (FloatOps.ofBits .f32 0x3DCCCCCD#32)

/-- The table of pairwise overlaps. -/
def table (x1 x2 : Vec Ideal S1x4x200x128 .f32) : Vec Ideal S200x200x128 .f32 :=
  fun y => pair (X1 x1 x2) (Y1 x1 x2) (X2 x1 x2) (Y2 x1 x2) (AR x1 x2) (y 0) (y 1) (y 2)

/-- The suppression flags before trip `k`. -/
def supS (s : FVec Ideal S200x128 .f32) (T : Vec Ideal S200x200x128 .f32) : ℕ → FVec Ideal S200x128 .f32
  | 0 => k1_pay95
  | k + 1 => if h : k < k1_t1_loop.trips then k1_pay96 s ⟨k, h⟩ (supS s T k) (tableRow T ⟨k, h⟩) else supS s T k

/-- The zero offsets of rank four. -/
theorem hz4 : (![0, 0, 0, 0] : Fin 4 → ℕ) = 0 := by decide

/-- Trip `k` reads row `k`. -/
theorem off1 : ∀ k : Fin k1_t1_loop.trips, k1_off1 k = ![k.val, 0, 0] := by decide +kernel

section Body

variable (𝒱 : Variants) (c : Dev nD) (bd : Option 𝒱.V)  (i : grid1.Coords) (arg1 : Memref sig .tc .vmem S1x200x128 .f32) (harg1 : arg1.IsWhole)
    (arg2 : Memref sig .tc .vmem S1x4x200x128 .f32) (harg2 : arg2.IsWhole) (arg3 : Memref sig .tc .vmem S1x4x200x128 .f32) (harg3 : arg3.IsWhole)
    (arg4 : Memref sig .tc .vmem S1x200x128 .f32) (harg4 : arg4.IsWhole) (arg5 : Memref sig .tc .vmem S1x4x200x128 .f32) (harg5 : arg5.IsWhole)
    (arg6 : Memref sig .tc .vmem S200x200x128 .f32) (harg6 : arg6.IsWhole)

/-- One trip's flags. -/
theorem tripR_eq (v1 v39 v42 v45 v48 : FVec Ideal S200x128 .f32) (v1106 : FVec Ideal S8x1x128 .f32) (v1107 : FVec Ideal S1x200x128 .f32)
    (X : BufTy.Contents (Elt Ideal) arg6.view.ty) (k : Fin k1_t1_loop.trips) (acc : FVec Ideal S200x128 .f32) :
    tripR_k1_t1 𝒱 c bd i arg1 harg1 arg2 harg2 arg3 harg3 arg4 harg4 arg5 harg5 arg6 harg6 v1 v39 v42 v45 v48 v1106 v1107 X k acc
      = k1_pay96 v1 k acc (tableRow (arg6.view.read (Elt Ideal) X) k) := by
  unfold tripR_k1_t1 trip_k1_t1
  dsimp only
  rw [View.readAt_eq_ld]
  congr 1
  funext y
  show arg6.view.read (Elt Ideal) X _ = arg6.view.read (Elt Ideal) X _
  congr 1
  refine funext fun a => Fin.ext ?_
  refine (congrArg (· + 1 * (y a).val) (congrFun (off1 k) a)).trans ?_
  match a with
  | 0 => have := (y 0).isLt; show k.val + 1 * (y 0).val = k.val; change (y 0).val < 1 at this; omega
  | 1 => show 0 + 1 * (y 1).val = (y 1).val; omega
  | 2 => show 0 + 1 * (y 2).val = (y 2).val; omega

/-- The loop's flags before trip `k`. -/
theorem st_eq (v1 v39 v42 v45 v48 : FVec Ideal S200x128 .f32) (v1106 : FVec Ideal S8x1x128 .f32) (v1107 : FVec Ideal S1x200x128 .f32)
    (X : BufTy.Contents (Elt Ideal) arg6.view.ty) (T : Vec Ideal S200x200x128 .f32) (hX : arg6.view.read (Elt Ideal) X = T) :
    ∀ k, k ≤ k1_t1_loop.trips →
      st_k1_t1 𝒱 c bd i arg1 harg1 arg2 harg2 arg3 harg3 arg4 harg4 arg5 harg5 arg6 harg6 v1 v39 v42 v45 v48 v1106 v1107 X k1_pay95 k = supS v1 T k
  | 0, _ => rfl
  | k + 1, hk => by
    have hs := st_k1_t1_succ 𝒱 c bd i arg1 harg1 arg2 harg2 arg3 harg3 arg4 harg4 arg5 harg5 arg6 harg6 v1 v39 v42 v45 v48 v1106 v1107 X k1_pay95 ⟨k, hk⟩
    dsimp only at hs
    rw [hs, tripR_eq, st_eq v1 v39 v42 v45 v48 v1106 v1107 X T hX k (Nat.le_of_succ_le hk), hX, supS, dif_pos (show k < _ from hk)]
    rfl

end Body
section Out
variable (c : Dev nD) (i : grid1.Coords) (arg1 : Memref sig .tc .vmem S1x200x128 .f32) (harg1 : arg1.IsWhole)
    (arg2 : Memref sig .tc .vmem S1x4x200x128 .f32) (harg2 : arg2.IsWhole) (arg3 : Memref sig .tc .vmem S1x4x200x128 .f32) (harg3 : arg3.IsWhole)
    (arg4 : Memref sig .tc .vmem S1x200x128 .f32) (harg4 : arg4.IsWhole) (arg5 : Memref sig .tc .vmem S1x4x200x128 .f32) (harg5 : arg5.IsWhole)
    (arg6 : Memref sig .tc .vmem S200x200x128 .f32) (harg6 : arg6.IsWhole) (x0 : Vec Ideal S1x200x128 .f32) (x1 x2 : Vec Ideal S1x4x200x128 .f32)

/-- A load of one channel. -/
theorem readP (arg : Memref sig .tc .vmem S1x4x200x128 .f32) (harg : arg.IsWhole) (x : Vec Ideal S1x4x200x128 .f32) (a : Fin 4) (n : ℕ) (ha : a.val = n)
    (inb : ∀ d, (![0, n, 0, 0] : Fin 4 → ℕ) d + S1x1x200x128.size d ≤ S1x4x200x128.size d) :
    View.readAt (Elt Ideal) arg.view (Rect.unit (s := S1x4x200x128) ![0, n, 0, 0] S1x1x200x128.size inb).toLoadRect (harg.unread x) = plane x a := by
  subst ha
  rw [View.readAt_eq_ld, harg.read_unread]
  funext y
  show x _ = x _
  congr 1
  refine funext fun d => Fin.ext ?_
  match d with
  | 0 => have := (y 0).isLt; show 0 + 1 * (y 0).val = 0; change (y 0).val < 1 at this; omega
  | 1 => have := (y 1).isLt; show a.val + 1 * (y 1).val = a.val; change (y 1).val < 1 at this; omega
  | 2 => show 0 + 1 * (y 2).val = (y 2).val; omega
  | 3 => show 0 + 1 * (y 3).val = (y 3).val; omega

/-- A store of eight rows that holds the table's rows puts the table's entries at its places. -/
theorem piece (P : Vec Ideal S8x200x128 .f32) (o : ℕ) (ho : o + 8 ≤ 200) (inb : ∀ d, (![o, 0, 0] : Fin 3 → ℕ) d + S8x200x128.size d ≤ S200x200x128.size d)
    (hP : ∀ (r : Fin 8) (j : Fin 200) (b : Fin 128), P (ix3 r j b) = table x1 x2 (ix3 ⟨o + r.val, by omega⟩ j b)) :
    ∀ x : (Rect.unit (s := S200x200x128) ![o, 0, 0] S8x200x128.size inb).shape.Idx,
      P x = table x1 x2 ((Rect.unit (s := S200x200x128) ![o, 0, 0] S8x200x128.size inb).emb x) := fun x => by
  have hx : x = ix3 (x 0) (x 1) (x 2) := eq_ix3 x
  refine (congrArg P hx).trans ((hP (x 0) (x 1) (x 2)).trans (congrArg (table x1 x2) ?_))
  refine funext fun d => Fin.ext ?_
  match d with
  | 0 => show o + (x 0).val = o + 1 * (x 0).val; omega
  | 1 => show (x 1).val = 0 + 1 * (x 1).val; omega
  | 2 => show (x 2).val = 0 + 1 * (x 2).val; omega

/-- The block of scores after the grid point. -/
theorem out3 :
    out1_A_3 c i arg1 harg1 arg2 harg2 arg3 harg3 arg4 harg4 arg5 harg5 arg6 harg6 x0 x1 x2
      = k1_pay99 (k1_pay3 x0) (k1_pay97 (supS (k1_pay3 x0) (table x1 x2) 200)) := by
  unfold out1_A_3
  rw [View.read_writes_eq_canon _ _ _ (cover1_A_3 c i arg1 harg1 arg2 harg2 arg3 harg3 arg4 harg4 arg5 harg5 arg6 harg6 x0 x1 x2)]
  unfold kernelRun1_A
  dsimp only
  rw [View.canon_unit_zero (S := S1x200x128) hz3]
  sl_unfold_words
  have hx : View.readAt (Elt Ideal) arg1.view (Rect.unit (s := S1x200x128) ![0, 0, 0] S1x200x128.size inb_S1x200x128_S1x200x128_0_0_0).toLoadRect (harg1.unread x0) = x0 := by
    rw [View.readAt_eq_ld, harg1.read_unread, View.ld_unit_zero (S := S1x200x128) hz3]
  rw [hx, readP arg2 harg2 x1 0 0 rfl, readP arg2 harg2 x1 1 1 rfl, readP arg2 harg2 x1 2 2 rfl, readP arg2 harg2 x1 3 3 rfl,
    readP arg3 harg3 x2 0 0 rfl, readP arg3 harg3 x2 1 1 rfl, readP arg3 harg3 x2 2 2 rfl, readP arg3 harg3 x2 3 3 rfl]
  congr 2
  refine st_eq Variants.none c none i arg1 harg1 arg2 harg2 arg3 harg3 arg4 harg4 arg5 harg5 arg6 harg6 _ _ _ _ _ _ _ _ _ ?_ 200 (by decide +kernel)
  funext y
  refine View.read_writes_apply_of_pieces _ _ (table x1 x2) _ ?_ y ?_
  rotate_left
  · exact View.cover_of_tiledL (s := S200x200x128) _ S8x200x128.size (by sl_kernel_rfl) y
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_⟩
  · exact piece x1 x2 _ 192 (by omega) _ fun r j b => row24 _ _ _ _ _ r j b
  · exact piece x1 x2 _ 184 (by omega) _ fun r j b => row23 _ _ _ _ _ r j b
  · exact piece x1 x2 _ 176 (by omega) _ fun r j b => row22 _ _ _ _ _ r j b
  · exact piece x1 x2 _ 168 (by omega) _ fun r j b => row21 _ _ _ _ _ r j b
  · exact piece x1 x2 _ 160 (by omega) _ fun r j b => row20 _ _ _ _ _ r j b
  · exact piece x1 x2 _ 152 (by omega) _ fun r j b => row19 _ _ _ _ _ r j b
  · exact piece x1 x2 _ 144 (by omega) _ fun r j b => row18 _ _ _ _ _ r j b
  · exact piece x1 x2 _ 136 (by omega) _ fun r j b => row17 _ _ _ _ _ r j b
  · exact piece x1 x2 _ 128 (by omega) _ fun r j b => row16 _ _ _ _ _ r j b
  · exact piece x1 x2 _ 120 (by omega) _ fun r j b => row15 _ _ _ _ _ r j b
  · exact piece x1 x2 _ 112 (by omega) _ fun r j b => row14 _ _ _ _ _ r j b
  · exact piece x1 x2 _ 104 (by omega) _ fun r j b => row13 _ _ _ _ _ r j b
  · exact piece x1 x2 _ 96 (by omega) _ fun r j b => row12 _ _ _ _ _ r j b
  · exact piece x1 x2 _ 88 (by omega) _ fun r j b => row11 _ _ _ _ _ r j b
  · exact piece x1 x2 _ 80 (by omega) _ fun r j b => row10 _ _ _ _ _ r j b
  · exact piece x1 x2 _ 72 (by omega) _ fun r j b => row9 _ _ _ _ _ r j b
  · exact piece x1 x2 _ 64 (by omega) _ fun r j b => row8 _ _ _ _ _ r j b
  · exact piece x1 x2 _ 56 (by omega) _ fun r j b => row7 _ _ _ _ _ r j b
  · exact piece x1 x2 _ 48 (by omega) _ fun r j b => row6 _ _ _ _ _ r j b
  · exact piece x1 x2 _ 40 (by omega) _ fun r j b => row5 _ _ _ _ _ r j b
  · exact piece x1 x2 _ 32 (by omega) _ fun r j b => row4 _ _ _ _ _ r j b
  · exact piece x1 x2 _ 24 (by omega) _ fun r j b => row3 _ _ _ _ _ r j b
  · exact piece x1 x2 _ 16 (by omega) _ fun r j b => row2 _ _ _ _ _ r j b
  · exact piece x1 x2 _ 8 (by omega) _ fun r j b => row1 _ _ _ _ _ r j b
  · refine piece x1 x2 _ 0 (by omega) _ fun r j b => (row0 _ _ _ _ _ _ _ _ r j b).trans ?_
    exact congrArg (fun t => pair (X1 x1 x2) (Y1 x1 x2) (X2 x1 x2) (Y2 x1 x2) (AR x1 x2) t j b) (Fin.ext (Nat.zero_add _).symm)
  · exact fun p hp => absurd hp List.not_mem_nil

/-- The four edges, in the order they are written. -/
def edge (x1 x2 : Vec Ideal S1x4x200x128 .f32) : Fin 4 → FVec Ideal S200x128 .f32
  | 0 => X1 x1 x2
  | 1 => Y1 x1 x2
  | 2 => X2 x1 x2
  | 3 => Y2 x1 x2

/-- What the second output's block holds, as a function of the place. -/
def boxes (x0 : Vec Ideal S1x200x128 .f32) (x1 x2 : Vec Ideal S1x4x200x128 .f32) : Vec Ideal S1x4x200x128 .f32 := fun y =>
  edge x1 x2 (y 1) (ix2 (y 2) (y 3))
  * k1_pay98 (k1_pay3 x0) (k1_pay97 (supS (k1_pay3 x0) (table x1 x2) 200)) (ix2 (y 2) (y 3))

/-- A store of one channel that holds that channel of `boxes`. -/
theorem quarter (a : Fin 4) (inb : ∀ d, (![0, a.val, 0, 0] : Fin 4 → ℕ) d + S1x1x200x128.size d ≤ S1x4x200x128.size d) (P : Vec Ideal S1x1x200x128 .f32)
    (hP : ∀ (r : Fin 200) (b : Fin 128), P (ix4 0 0 r b) = boxes x0 x1 x2 (ix4 0 a r b)) :
    ∀ x : (Rect.unit (s := S1x4x200x128) ![0, a.val, 0, 0] S1x1x200x128.size inb).shape.Idx,
      P x = boxes x0 x1 x2 ((Rect.unit (s := S1x4x200x128) ![0, a.val, 0, 0] S1x1x200x128.size inb).emb x) := fun x => by
  have h0 : (x 0).val = 0 := Nat.lt_one_iff.mp (x 0).isLt
  have h1 : (x 1).val = 0 := Nat.lt_one_iff.mp (x 1).isLt
  have hx : x = ix4 (0 : Fin 1) (0 : Fin 1) (x 2) (x 3) := funext fun d => Fin.ext (by
    match d with
    | 0 => exact h0
    | 1 => exact h1
    | 2 => rfl
    | 3 => rfl)
  refine (congrArg P hx).trans ((hP (x 2) (x 3)).trans (congrArg (boxes x0 x1 x2) ?_))
  refine funext fun d => Fin.ext ?_
  match d with
  | 0 => show 0 = 0 + 1 * (x 0).val; omega
  | 1 => show a.val = a.val + 1 * (x 1).val; omega
  | 2 => show (x 2).val = 0 + 1 * (x 2).val; omega
  | 3 => show (x 3).val = 0 + 1 * (x 3).val; omega

/-- The block of corners after the grid point. -/
theorem out4 :
    out1_A_4 c i arg1 harg1 arg2 harg2 arg3 harg3 arg4 harg4 arg5 harg5 arg6 harg6 x0 x1 x2 = boxes x0 x1 x2 := by
  unfold out1_A_4
  funext y
  refine View.read_writes_apply_of_pieces _ _ (boxes x0 x1 x2) _ ?_ y (cover1_A_4 c i arg1 harg1 arg2 harg2 arg3 harg3 arg4 harg4 arg5 harg5 arg6 harg6 x0 x1 x2 y)
  unfold kernelRun1_A
  dsimp only
  sl_unfold_words
  have hx : View.readAt (Elt Ideal) arg1.view (Rect.unit (s := S1x200x128) ![0, 0, 0] S1x200x128.size inb_S1x200x128_S1x200x128_0_0_0).toLoadRect (harg1.unread x0) = x0 := by
    rw [View.readAt_eq_ld, harg1.read_unread, View.ld_unit_zero (S := S1x200x128) hz3]
  rw [hx, readP arg2 harg2 x1 0 0 rfl, readP arg2 harg2 x1 1 1 rfl, readP arg2 harg2 x1 2 2 rfl, readP arg2 harg2 x1 3 3 rfl,
    readP arg3 harg3 x2 0 0 rfl, readP arg3 harg3 x2 1 1 rfl, readP arg3 harg3 x2 2 2 rfl, readP arg3 harg3 x2 3 3 rfl]
  generalize hst : st_k1_t1 (F := Ideal) Variants.none c none i arg1 harg1 arg2 harg2 arg3 harg3 arg4 harg4 arg5 harg5 arg6 harg6 _ _ _ _ _ _ _ _ _ _ = S
  obtain rfl : S = supS (k1_pay3 x0) (table x1 x2) 200 := by
    refine hst.symm.trans ?_
    refine st_eq Variants.none c none i arg1 harg1 arg2 harg2 arg3 harg3 arg4 harg4 arg5 harg5 arg6 harg6 _ _ _ _ _ _ _ _ _ ?_ 200 (by decide +kernel)
    funext z
    refine View.read_writes_apply_of_pieces _ _ (table x1 x2) _ ?_ z ?_
    rotate_left
    · exact View.cover_of_tiledL (s := S200x200x128) _ S8x200x128.size (by sl_kernel_rfl) z
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_⟩
    · exact piece x1 x2 _ 192 (by omega) _ fun r j b => row24 _ _ _ _ _ r j b
    · exact piece x1 x2 _ 184 (by omega) _ fun r j b => row23 _ _ _ _ _ r j b
    · exact piece x1 x2 _ 176 (by omega) _ fun r j b => row22 _ _ _ _ _ r j b
    · exact piece x1 x2 _ 168 (by omega) _ fun r j b => row21 _ _ _ _ _ r j b
    · exact piece x1 x2 _ 160 (by omega) _ fun r j b => row20 _ _ _ _ _ r j b
    · exact piece x1 x2 _ 152 (by omega) _ fun r j b => row19 _ _ _ _ _ r j b
    · exact piece x1 x2 _ 144 (by omega) _ fun r j b => row18 _ _ _ _ _ r j b
    · exact piece x1 x2 _ 136 (by omega) _ fun r j b => row17 _ _ _ _ _ r j b
    · exact piece x1 x2 _ 128 (by omega) _ fun r j b => row16 _ _ _ _ _ r j b
    · exact piece x1 x2 _ 120 (by omega) _ fun r j b => row15 _ _ _ _ _ r j b
    · exact piece x1 x2 _ 112 (by omega) _ fun r j b => row14 _ _ _ _ _ r j b
    · exact piece x1 x2 _ 104 (by omega) _ fun r j b => row13 _ _ _ _ _ r j b
    · exact piece x1 x2 _ 96 (by omega) _ fun r j b => row12 _ _ _ _ _ r j b
    · exact piece x1 x2 _ 88 (by omega) _ fun r j b => row11 _ _ _ _ _ r j b
    · exact piece x1 x2 _ 80 (by omega) _ fun r j b => row10 _ _ _ _ _ r j b
    · exact piece x1 x2 _ 72 (by omega) _ fun r j b => row9 _ _ _ _ _ r j b
    · exact piece x1 x2 _ 64 (by omega) _ fun r j b => row8 _ _ _ _ _ r j b
    · exact piece x1 x2 _ 56 (by omega) _ fun r j b => row7 _ _ _ _ _ r j b
    · exact piece x1 x2 _ 48 (by omega) _ fun r j b => row6 _ _ _ _ _ r j b
    · exact piece x1 x2 _ 40 (by omega) _ fun r j b => row5 _ _ _ _ _ r j b
    · exact piece x1 x2 _ 32 (by omega) _ fun r j b => row4 _ _ _ _ _ r j b
    · exact piece x1 x2 _ 24 (by omega) _ fun r j b => row3 _ _ _ _ _ r j b
    · exact piece x1 x2 _ 16 (by omega) _ fun r j b => row2 _ _ _ _ _ r j b
    · exact piece x1 x2 _ 8 (by omega) _ fun r j b => row1 _ _ _ _ _ r j b
    · refine piece x1 x2 _ 0 (by omega) _ fun r j b => (row0 _ _ _ _ _ _ _ _ r j b).trans ?_
      exact congrArg (fun t => pair (X1 x1 x2) (Y1 x1 x2) (X2 x1 x2) (Y2 x1 x2) (AR x1 x2) t j b) (Fin.ext (Nat.zero_add _).symm)
    · exact fun p hp => absurd hp List.not_mem_nil
  clear hst
  simp only [List.forall_mem_cons]
  refine ⟨?_, ?_, ?_, ?_, ?_⟩
  · exact quarter x0 x1 x2 3 _ _ fun r b => by pointwise [k1_pay2]; rfl
  · exact quarter x0 x1 x2 2 _ _ fun r b => by pointwise [k1_pay1, k1_pay102]; rfl
  · exact quarter x0 x1 x2 1 _ _ fun r b => by pointwise [k1_pay101]; rfl
  · exact quarter x0 x1 x2 0 _ _ fun r b => by pointwise [k1_pay100]; rfl
  · exact fun p hp => absurd hp List.not_mem_nil

end Out

end Cert.Proof.NmsBlock
end
-- ==== Proof.NmsRead.lean ====
module

public import proofs.«01_k».proof.Proof.NmsBlock

/-! The suppression kernel's block, entry by entry: its corner planes are the decoded boxes, its table their pairwise
    overlaps, its flags the suppression by the candidates before, and what it writes the kept entries. -/

@[expose] public section

set_option maxRecDepth 16384

noncomputable section

namespace Cert.Proof.NmsRead
open Idealize.ShloMosaic Idealize.ShloMosaic.TcCoe
open Cert.KernelIdeal Cert.KernelIdeal.Gen Cert.Proof.NmsRows Cert.Proof.NmsBlock Cert.Proof.Words

/-- The conjunction of two truth values' bits. -/
theorem andi_ofBool (p q : Bool) : IntOp.andi (BitVec.ofBool p) (BitVec.ofBool q) = BitVec.ofBool (p && q) := by
  cases p <;> cases q <;> rfl

/-- The greatest of a column that is zero off one row, where that row's entry is not negative, is that entry. -/
theorem fold_pick (f : Fin 200 → EReal) (k : Fin 200) (h : 0 ≤ f k) :
    Finset.fold max (Ideal.ofBits .f32 0xFF800000#32)
      (fun x : Fin 200 => Scalar.select (IntOp.cmpi .eq (BitVec.ofNat 32 x.val) (BitVec.ofNat 32 k.val)) (f x) 0) Finset.univ = f k := by
  have he : (fun x : Fin 200 => Scalar.select (IntOp.cmpi .eq (BitVec.ofNat 32 x.val) (BitVec.ofNat 32 k.val)) (f x) 0)
      = fun x : Fin 200 => if x = k then f x else 0 := by
    funext x
    rw [cmpi_eq (by omega) (by omega), select_ofBool]
    exact if_congr (by rw [decide_eq_true_iff]; exact Fin.ext_iff.symm) rfl rfl
  rw [he, ofBits_neg_inf]
  apply le_antisymm
  · refine (Finset.fold_max_le _).mpr ⟨bot_le, fun x _ => ?_⟩
    split
    · next hx => rw [hx]
    · exact h
  · exact (Finset.le_fold_max _).mpr (Or.inr ⟨k, Finset.mem_univ _, by rw [if_pos rfl]⟩)

/-- Coordinates of box `n` of column `b`. -/
def col (x : Vec Ideal S1x4x200x128 .f32) (b : Fin 128) (n : Fin 200) (d : Fin 4) : EReal := x (ix4 0 d n b)

variable (x0 : Vec Ideal S1x200x128 .f32) (x1 x2 : Vec Ideal S1x4x200x128 .f32) (b : Fin 128)

/-- The decoded box `n` of column `b`. -/
def box (n : Fin 200) : Fin 4 → EReal := Det.corner (col x1 b n) (col x2 b n)

/-- The scores of column `b`. -/
def sc (n : Fin 200) : EReal := x0 (ix3 0 n b)

/-- The left edges. -/
theorem x1_at (n : Fin 200) : X1 x1 x2 (ix2 n b) = box x1 x2 b n 0 := by
  pointwise [X1, k1_pay14, k1_pay5, k1_pay8, k1_pay10, k1_pay12, plane, Det.corner, col, box]

/-- The upper edges. -/
theorem y1_at (n : Fin 200) : Y1 x1 x2 (ix2 n b) = box x1 x2 b n 1 := by
  pointwise [Y1, k1_pay15, k1_pay4, k1_pay6, k1_pay7, k1_pay9, k1_pay11, k1_pay13, plane, Det.corner, col, box]

/-- The right edges. -/
theorem x2_at (n : Fin 200) : X2 x1 x2 (ix2 n b) = box x1 x2 b n 2 := by
  pointwise [X2, k1_pay16, k1_pay5, k1_pay8, k1_pay10, k1_pay12, plane, Det.corner, col, box]

/-- The lower edges. -/
theorem y2_at (n : Fin 200) : Y2 x1 x2 (ix2 n b) = box x1 x2 b n 3 := by
  pointwise [Y2, k1_pay17, k1_pay4, k1_pay6, k1_pay7, k1_pay9, k1_pay11, k1_pay13, plane, Det.corner, col, box]

/-- The areas. -/
theorem ar_at (n : Fin 200) : AR x1 x2 (ix2 n b) = Det.area (box x1 x2 b n) := by
  have h : AR x1 x2 (ix2 n b) = (X2 x1 x2 (ix2 n b) - X1 x1 x2 (ix2 n b)) * (Y2 x1 x2 (ix2 n b) - Y1 x1 x2 (ix2 n b)) := rfl
  rw [h, x1_at, y1_at, x2_at, y2_at]
  rfl

/-- The table's entries. -/
theorem table_at (i j : Fin 200) : table x1 x2 (ix3 i j b) = Det.iou (box x1 x2 b i) (box x1 x2 b j) := by
  have h : table x1 x2 (ix3 i j b) = pair (X1 x1 x2) (Y1 x1 x2) (X2 x1 x2) (Y2 x1 x2) (AR x1 x2) i j b := rfl
  rw [h, pair]
  simp only [x1_at, y1_at, x2_at, y2_at, ar_at]
  rfl

/-- One trip, where the flag and the score read are not negative. -/
theorem step_at (s acc : FVec Ideal S200x128 .f32) (T : Vec Ideal S200x200x128 .f32) (k j : Fin 200)
    (ha : 0 ≤ acc (ix2 k b)) (hs : 0 ≤ s (ix2 k b)) :
    k1_pay96 s k acc (tableRow T k) (ix2 j b) = max (acc (ix2 j b))
      (if (decide (Ideal.ofBits .f32 0x3EE66666#32 < T (ix3 k j b)) && decide (k.val < j.val)
        && (decide (acc (ix2 k b) = 0) && decide (Ideal.ofBits .f32 0x3C23D70A#32 < s (ix2 k b)))) = true then 1 else 0) := by
  pointwise [k1_pay96, tableRow]
  rw [iv_eq, fold_pick (fun x => acc (ix2 x b)) k ha, fold_pick (fun x => s (ix2 x b)) k hs, cmpi_sgt (by omega) (by omega)]
  simp only [andi_ofBool, select_ofBool]

/-- The flags before trip `k`. -/
theorem sup_at (hs : ∀ n, 0 ≤ sc x0 b n) (k : ℕ) (hk : k ≤ 200) (j : Fin 200) :
    supS (k1_pay3 x0) (table x1 x2) k (ix2 j b)
      = if Det.supp (fun i j => Det.iou (box x1 x2 b i) (box x1 x2 b j)) (sc x0 b) k j = true then 1 else 0 := by
  have hp : ∀ n : Fin 200, k1_pay3 x0 (ix2 n b) = sc x0 b n := fun n => by pointwise [k1_pay3, sc]
  induction k generalizing j with
  | zero =>
    rw [supS, Det.supp, if_neg (by decide)]
    pointwise [k1_pay95]
  | succ k ih =>
    have hk' : k < k1_t1_loop.trips := hk
    rw [supS, dif_pos hk']
    refine (step_at b _ _ _ ⟨k, hk⟩ j ?_ ?_).trans ?_
    · rw [ih (by omega)]; split
      · exact zero_le_one
      · exact le_refl _
    · rw [hp]; exact hs _
    · rw [ih (by omega), ih (by omega), hp, table_at, Det.supp, dif_pos (show k < 200 from hk)]
      generalize Det.supp _ _ k j = p
      generalize Det.supp _ _ k ⟨k, hk⟩ = q
      generalize decide (Ideal.ofBits .f32 0x3C23D70A#32 < sc x0 b ⟨k, hk⟩) = u
      generalize decide (Ideal.ofBits .f32 0x3EE66666#32 < Det.iou (box x1 x2 b ⟨k, hk⟩) (box x1 x2 b j)) = v
      generalize decide (k < j.val) = w
      cases p <;> cases q <;> cases u <;> cases v <;> cases w <;> simp

/-- The final mask: one at what is kept, zero elsewhere. -/
theorem mask_at (hs : ∀ n, 0 ≤ sc x0 b n) (j : Fin 200) :
    k1_pay98 (k1_pay3 x0) (k1_pay97 (supS (k1_pay3 x0) (table x1 x2) 200)) (ix2 j b)
      = if Det.kept (fun i j => Det.iou (box x1 x2 b i) (box x1 x2 b j)) (sc x0 b) j = true then 1 else 0 := by
  have hp : k1_pay3 x0 (ix2 j b) = sc x0 b j := by pointwise [k1_pay3, sc]
  have h : k1_pay98 (k1_pay3 x0) (k1_pay97 (supS (k1_pay3 x0) (table x1 x2) 200)) (ix2 j b)
      = if (decide (supS (k1_pay3 x0) (table x1 x2) 200 (ix2 j b) = 0)
        && decide (Ideal.ofBits .f32 0x3C23D70A#32 < k1_pay3 x0 (ix2 j b))) = true then 1 else 0 := by
    pointwise [k1_pay98, k1_pay97]
    rw [andi_ofBool, select_ofBool]
  rw [h, sup_at x0 x1 x2 b hs 200 (le_refl _) j, hp, Det.kept_eq]
  generalize Det.supp _ _ 200 j = p
  cases p <;> simp

/-- The first output's block. -/
theorem out3_at (hs : ∀ n, 0 ≤ sc x0 b n) (j : Fin 200) :
    k1_pay99 (k1_pay3 x0) (k1_pay97 (supS (k1_pay3 x0) (table x1 x2) 200)) (ix3 0 j b)
      = if Det.kept (fun i j => Det.iou (box x1 x2 b i) (box x1 x2 b j)) (sc x0 b) j = true then sc x0 b j else 0 := by
  have h : k1_pay99 (k1_pay3 x0) (k1_pay97 (supS (k1_pay3 x0) (table x1 x2) 200)) (ix3 0 j b)
      = sc x0 b j * k1_pay98 (k1_pay3 x0) (k1_pay97 (supS (k1_pay3 x0) (table x1 x2) 200)) (ix2 j b) := by
    generalize supS (k1_pay3 x0) (table x1 x2) 200 = S
    pointwise [k1_pay99, k1_pay3, sc]
  rw [h, mask_at x0 x1 x2 b hs]
  split
  · exact mul_one _
  · exact mul_zero _

/-- The second output's block. -/
theorem out4_at (hs : ∀ n, 0 ≤ sc x0 b n) (d : Fin 4) (j : Fin 200) :
    boxes x0 x1 x2 (ix4 0 d j b)
      = if Det.kept (fun i j => Det.iou (box x1 x2 b i) (box x1 x2 b j)) (sc x0 b) j = true then box x1 x2 b j d else 0 := by
  have h : boxes x0 x1 x2 (ix4 0 d j b) = edge x1 x2 d (ix2 j b) * k1_pay98 (k1_pay3 x0) (k1_pay97 (supS (k1_pay3 x0) (table x1 x2) 200)) (ix2 j b) := rfl
  have he : edge x1 x2 d (ix2 j b) = box x1 x2 b j d := by
    match d with
    | 0 => exact x1_at x1 x2 b j
    | 1 => exact y1_at x1 x2 b j
    | 2 => exact x2_at x1 x2 b j
    | 3 => exact y2_at x1 x2 b j
  rw [h, mask_at x0 x1 x2 b hs, he]
  split
  · exact mul_one _
  · exact mul_zero _

end Cert.Proof.NmsRead
end
-- ==== Proof.RefTrip.lean ====
module

public import proofs.«01_k».proof.Proof.RefIou
public import proofs.«01_k».proof.Proof.NmsRead
public import Idealize.ShloMosaic.Lib.DynamicIndex
public import Idealize.ShloMosaic.Lib.Pipeline.Value

/-! One trip of the reference's loop, one place at a time. -/

@[expose] public section

set_option maxRecDepth 16384

noncomputable section

namespace Cert.Proof.RefTrip
open Idealize.ShloMosaic Idealize.ShloMosaic.TcCoe Idealize.SL.Sem
open Cert.ReferenceIdeal Cert.ReferenceIdeal.Gen Cert.ReferenceIdeal.Value

/-- Whether any of a row's bits is set. -/
theorem any_at (x : IVec S128x20x200 1) (b : Fin 128) (c : Fin 20) :
    Host.reduce IntOp.ori x (constantI S_ 1 0#1) reducesTo_S128x20x200_S128x20_d2 h_S_ (ix2 b c)
      = Finset.fold IntOp.ori (0#1) (fun d : Fin 200 => x (ix3 b c d)) Finset.univ := by
  pointwise

/-- The disjunction of bits of which only one may be set is that one. -/
theorem fold_one (f : Fin 200 → BitVec 1) (k : Fin 200) (h : ∀ d, d ≠ k → f d = 0#1) :
    Finset.fold IntOp.ori (0#1) f Finset.univ = f k := by
  have h0 : ∀ s : Finset (Fin 200), (∀ d ∈ s, f d = 0#1) → Finset.fold IntOp.ori (0#1) f s = 0#1 := by
    intro s
    induction s using Finset.induction_on with
    | empty => exact fun _ => rfl
    | insert a t ha ih =>
      intro hs
      rw [Finset.fold_insert ha, hs a (Finset.mem_insert_self _ _), ih fun d hd => hs d (Finset.mem_insert_of_mem hd)]
      rfl
  rw [← Finset.insert_erase (Finset.mem_univ k), Finset.fold_insert (Finset.notMem_erase k _),
    h0 _ fun d hd => h d (Finset.ne_of_mem_erase hd)]
  show f k ||| 0#1 = f k
  exact BitVec.or_zero

/-- Row `k` of the overlaps. -/
theorem row0_at (x : FVec Ideal S200x128x20x200 .f32) (w z1 z2 z3 : IVec S_ 32) (k : Fin 200) (hw : w ix0 = BitVec.ofNat 32 k.val)
    (h1 : z1 ix0 = 0#32) (h2 : z2 ix0 = 0#32) (h3 : z3 ix0 = 0#32) (b : Fin 128) (c : Fin 20) (j : Fin 200) :
    shapeCast S128x20x200 (Host.dynamicSlice S1x128x20x200 x (fun a => ((![w, z1, z2, z3] : Fin 4 → IVec S_ 32) a (Shape.Idx.first h_S_)).toInt)
      sliceFits_S200x128x20x200_S1x128x20x200) shapeCasts_S1x128x20x200_S128x20x200 (ix3 b c j) = x (ix4 k b c j) := by
  have he : Shape.Idx.first h_S_ = ix0 := funext fun i => i.elim0
  rw [Host.dynamicSlice_eq_extractStridedSlice (s := S200x128x20x200) S1x128x20x200 x (fun a => ((![w, z1, z2, z3] : Fin 4 → IVec S_ 32) a (Shape.Idx.first h_S_)).toInt) ![k.val, 0, 0, 0] sliceFits_S200x128x20x200_S1x128x20x200 ⟨rfl, fun a => by
      match a with
      | 0 => show k.val + 1 ≤ 200; omega
      | 1 => show 0 + 128 ≤ 128; omega
      | 2 => show 0 + 20 ≤ 20; omega
      | 3 => show 0 + 200 ≤ 200; omega⟩ fun a => by
    rw [he]
    match a with
    | 0 => exact (congrArg BitVec.toInt hw).trans (Words.toInt_ofNat (by omega))
    | 1 => exact congrArg BitVec.toInt h1
    | 2 => exact congrArg BitVec.toInt h2
    | 3 => exact congrArg BitVec.toInt h3]
  pointwise

/-- Row `k` of the scores. -/
theorem row1_at (x : FVec Ideal S200x128x20 .f32) (w z1 z2 : IVec S_ 32) (k : Fin 200) (hw : w ix0 = BitVec.ofNat 32 k.val)
    (h1 : z1 ix0 = 0#32) (h2 : z2 ix0 = 0#32) (b : Fin 128) (c : Fin 20) :
    shapeCast S128x20 (Host.dynamicSlice S1x128x20 x (fun a => ((![w, z1, z2] : Fin 3 → IVec S_ 32) a (Shape.Idx.first h_S_)).toInt)
      sliceFits_S200x128x20_S1x128x20) shapeCasts_S1x128x20_S128x20 (ix2 b c) = x (ix3 k b c) := by
  have he : Shape.Idx.first h_S_ = ix0 := funext fun i => i.elim0
  rw [Host.dynamicSlice_eq_extractStridedSlice (s := S200x128x20) S1x128x20 x (fun a => ((![w, z1, z2] : Fin 3 → IVec S_ 32) a (Shape.Idx.first h_S_)).toInt) ![k.val, 0, 0] sliceFits_S200x128x20_S1x128x20 ⟨rfl, fun a => by
      match a with
      | 0 => show k.val + 1 ≤ 200; omega
      | 1 => show 0 + 128 ≤ 128; omega
      | 2 => show 0 + 20 ≤ 20; omega⟩ fun a => by
    rw [he]
    match a with
    | 0 => exact (congrArg BitVec.toInt hw).trans (Words.toInt_ofNat (by omega))
    | 1 => exact congrArg BitVec.toInt h1
    | 2 => exact congrArg BitVec.toInt h2]
  pointwise

/-- Element `k` of the numbers. -/
theorem row2_at (x : IVec S200 32) (w : IVec S_ 32) (k : Fin 200) (hw : w ix0 = BitVec.ofNat 32 k.val) :
    shapeCast S_ (Host.dynamicSlice S1 x (fun a => ((![w] : Fin 1 → IVec S_ 32) a (Shape.Idx.first h_S_)).toInt)
      sliceFits_S200_S1) shapeCasts_S1_S_ ix0 = x (ix1 k) := by
  have he : Shape.Idx.first h_S_ = ix0 := funext fun i => i.elim0
  rw [Host.dynamicSlice_eq_extractStridedSlice (s := S200) S1 x (fun a => ((![w] : Fin 1 → IVec S_ 32) a (Shape.Idx.first h_S_)).toInt) ![k.val] sliceFits_S200_S1 ⟨rfl, fun a => by
      match a with
      | 0 => show k.val + 1 ≤ 200; omega⟩ fun a => by
    rw [he]
    match a with
    | 0 => exact (congrArg BitVec.toInt hw).trans (Words.toInt_ofNat (by omega))]
  pointwise

/-- Writing row `k`. -/
theorem write_at (x : IVec S200x128x20 1) (u : IVec S1x128x20 1) (w z1 z2 : IVec S_ 32) (k : Fin 200) (hw : w ix0 = BitVec.ofNat 32 k.val)
    (h1 : z1 ix0 = 0#32) (h2 : z2 ix0 = 0#32) (i : Fin 200) (b : Fin 128) (c : Fin 20) :
    Host.dynamicUpdateSlice x u (fun a => ((![w, z1, z2] : Fin 3 → IVec S_ 32) a (Shape.Idx.first h_S_)).toInt)
      updateFits_S200x128x20_S1x128x20 (ix3 i b c) = if i = k then u (ix3 0 b c) else x (ix3 i b c) := by
  have he : Shape.Idx.first h_S_ = ix0 := funext fun i => i.elim0
  rw [Host.dynamicUpdateSlice_eq_updateSlice (s := S200x128x20) (u := S1x128x20) x u (fun a => ((![w, z1, z2] : Fin 3 → IVec S_ 32) a (Shape.Idx.first h_S_)).toInt) updateFits_S200x128x20_S1x128x20 ![k.val, 0, 0] (fun a => by
    rw [he]
    match a with
    | 0 =>
      show (min (max (w ix0).toInt 0) ((200 - 1 : ℕ) : ℤ)).toNat = k.val
      rw [hw, Words.toInt_ofNat (by omega)]
      omega
    | 1 =>
      show (min (max (z1 ix0).toInt 0) ((128 - 128 : ℕ) : ℤ)).toNat = 0
      rw [h1]; rfl
    | 2 =>
      show (min (max (z2 ix0).toInt 0) ((20 - 20 : ℕ) : ℤ)).toNat = 0
      rw [h2]; rfl) ⟨rfl, fun a => by
      match a with
      | 0 => show k.val + 1 ≤ 200; omega
      | 1 => show 0 + 128 ≤ 128; omega
      | 2 => show 0 + 20 ≤ 20; omega⟩]
  pointwise
  by_cases hi : i = k
  · subst hi
    rw [dif_pos ⟨le_refl _, by omega⟩, if_pos rfl]
    exact congrArg (fun q => u (ix3 q b c)) (Fin.ext (Nat.sub_self _))
  · rw [dif_neg fun h => hi (Fin.ext (by omega)), if_neg hi]

variable (V : Valuation τ sig (Elt Ideal)) (k : Fin 200) (h4 : V (Proc.devRef .tc main_v94_4) ix0 = BitVec.ofNat 32 k.val)
  (h2 : ∀ i : Fin 200, V (Proc.devRef .tc main_v94_2) (ix1 i) = BitVec.ofNat 32 i.val)
  (h3 : ∀ i : Fin 200, V (Proc.devRef .tc main_v94_3) (ix1 i) = BitVec.ofNat 32 i.val)
  (b : Fin 128) (c : Fin 20) (S : Fin 200 → Bool)
  (h5 : ∀ j : Fin 200, V (Proc.devRef .tc main_v94_5) (ix3 b c j) = BitVec.ofBool (S j))

/-- Whether the trip's candidate is kept. -/
def keepK : Bool := !(S k) && decide (Ideal.ofBits .f32 0x3C23D70A#32 < RefIou.E (V (Proc.devRef .tc main_v94_1) (ix3 k b c)))

include h4 h2

/-- The trip's candidate's number. -/
theorem v105_at : res_main_while0b_v105 V ix0 = BitVec.ofNat 32 k.val := by
  unfold res_main_while0b_v105
  exact (row2_at _ _ k h4).trans (h2 k)

include h3 h5

/-- Whether the trip's candidate is kept, as found by the trip. -/
theorem v116_at : res_main_while0b_v116 V (ix2 b c) = BitVec.ofBool (keepK V k b c S) := by
  unfold res_main_while0b_v116
  have hr := row1_at (V (Proc.devRef .tc main_v94_1)) (V (Proc.devRef .tc main_v94_4)) (constantI S_ 32 0#32) (constantI S_ 32 0#32) k h4 rfl rfl b c
  have ha : ∀ x : IVec S128x20x200 1, x = andi (V (Proc.devRef .tc main_v94_5)) (broadcastInDim S128x20x200 ![0, 1, 2] bcast_S1x1x200_S128x20x200_0_1_2 (broadcastInDim S1x1x200 ![1, 2] bcast_S1x200_S1x1x200_1_2 (broadcastInDim S1x200 ![1] bcast_S200_S1x200_1 (cmpi .eq (V (Proc.devRef .tc main_v94_3)) (broadcastInDim S200 ![] bcast_S_S200 (res_main_while0b_v105 V)))))) →
      Host.reduce IntOp.ori x (constantI S_ 1 0#1) reducesTo_S128x20x200_S128x20_d2 h_S_ (ix2 b c) = BitVec.ofBool (S k) := by
    intro x hx
    have hd : ∀ d : Fin 200, x (ix3 b c d) = IntOp.andi (BitVec.ofBool (S d)) (BitVec.ofBool (decide (d.val = k.val))) := by
      intro d
      rw [hx]
      pointwise
      rw [h3, v105_at V k h4 h2, Words.cmpi_eq (by omega) (by omega), h5]
    rw [any_at, fold_one _ k fun d hk => ?_]
    · rw [hd, decide_eq_true rfl]
      cases S k <;> rfl
    · rw [hd, decide_eq_false fun h => hk (Fin.ext h)]
      cases S d <;> rfl
  replace ha := ha _ rfl
  generalize Host.reduce IntOp.ori _ _ reducesTo_S128x20x200_S128x20_d2 h_S_ = A at ha ⊢
  generalize shapeCast S128x20 _ shapeCasts_S1x128x20_S128x20 = R at hr ⊢
  pointwise
  rw [hr, ha]
  unfold keepK
  generalize decide (Ideal.ofBits .f32 0x3C23D70A#32 < RefIou.E (V (Proc.devRef .tc main_v94_1) (ix3 k b c))) = p
  cases S k <;> cases p <;> rfl

/-- What is suppressed after the trip. -/
theorem s5_at (j : Fin 200) : step_main_v94_5 V (ix3 b c j)
    = BitVec.ofBool (S j || (keepK V k b c S && decide (Ideal.ofBits .f32 0x3EE66666#32 < RefIou.E (V (Proc.devRef .tc main_v94_0) (ix4 k b c j))) && decide (k.val < j.val))) := by
  unfold step_main_v94_5
  have hr := row0_at (V (Proc.devRef .tc main_v94_0)) (V (Proc.devRef .tc main_v94_4)) (constantI S_ 32 0#32) (constantI S_ 32 0#32) (constantI S_ 32 0#32) k h4 rfl rfl rfl b c j
  have hk := v116_at V k h4 h2 h3 b c S h5
  have hn := v105_at V k h4 h2
  generalize shapeCast S128x20x200 _ shapeCasts_S1x128x20x200_S128x20x200 = R at hr ⊢
  generalize res_main_while0b_v116 V = K at hk ⊢
  generalize res_main_while0b_v105 V = N at hn ⊢
  pointwise [id_eq]
  rw [hr, hk, hn, h3, h5, Words.cmpi_sgt (by omega) (by omega)]
  generalize decide (Ideal.ofBits .f32 0x3EE66666#32 < RefIou.E (V (Proc.devRef .tc main_v94_0) (ix4 k b c j))) = p
  generalize decide (k.val < j.val) = q
  generalize keepK V k b c S = r
  cases S j <;> cases p <;> cases q <;> cases r <;> rfl

/-- What is kept after the trip. -/
theorem s6_at (i : Fin 200) : step_main_v94_6 V (ix3 i b c)
    = if i = k then BitVec.ofBool (keepK V k b c S) else V (Proc.devRef .tc main_v94_6) (ix3 i b c) := by
  unfold step_main_v94_6
  refine (write_at _ _ _ _ _ k h4 rfl rfl i b c).trans ?_
  have hk := v116_at V k h4 h2 h3 b c S h5
  generalize res_main_while0b_v116 V = K at hk ⊢
  pointwise
  rw [hk]

end Cert.Proof.RefTrip
end
-- ==== Proof.RefLoop.lean ====
module

public import proofs.«01_k».proof.Proof.RefTrip

/-! The reference's loop: what it carries before each trip, and what it leaves. -/

@[expose] public section

set_option maxRecDepth 16384

noncomputable section

namespace Cert.Proof.RefLoop
open Idealize.ShloMosaic Idealize.ShloMosaic.TcCoe Idealize.SL.Sem
open Cert.ReferenceIdeal Cert.ReferenceIdeal.Gen Cert.ReferenceIdeal.Value

variable (W : Valuation τ sig (Elt Ideal))

/-- The overlaps the loop reads, for one batch element and class. -/
def ov (b : Fin 128) (c : Fin 20) (i j : Fin 200) : EReal := W (Proc.devRef .tc main_v94_0) (ix4 i b c j)

/-- The scores the loop reads, for one batch element and class. -/
def sc (b : Fin 128) (c : Fin 20) (i : Fin 200) : EReal := W (Proc.devRef .tc main_v94_1) (ix3 i b c)

/-- What the loop carries before trip `k`. -/
structure Inv (k : ℕ) (V : Valuation τ sig (Elt Ideal)) : Prop where
  c0 : V (Proc.devRef .tc main_v94_0) = W (Proc.devRef .tc main_v94_0)
  c1 : V (Proc.devRef .tc main_v94_1) = W (Proc.devRef .tc main_v94_1)
  c2 : ∀ i : Fin 200, V (Proc.devRef .tc main_v94_2) (ix1 i) = BitVec.ofNat 32 i.val
  c3 : ∀ i : Fin 200, V (Proc.devRef .tc main_v94_3) (ix1 i) = BitVec.ofNat 32 i.val
  c4 : V (Proc.devRef .tc main_v94_4) ix0 = BitVec.ofNat 32 k
  c5 : ∀ b c (j : Fin 200), V (Proc.devRef .tc main_v94_5) (ix3 b c j) = BitVec.ofBool (Det.supp (ov W b c) (sc W b c) k j)
  c6 : ∀ b c (i : Fin 200), i.val < k → V (Proc.devRef .tc main_v94_6) (ix3 i b c) = BitVec.ofBool (Det.kept (ov W b c) (sc W b c) i)

/-- One trip takes the carried values from trip `k`'s to trip `k + 1`'s. -/
theorem inv_step (k : ℕ) (hk : k < 200) (V : Valuation τ sig (Elt Ideal)) (h : Inv W k V) : Inv W (k + 1) (STEP V) := by
  have hK : ∀ b c, RefTrip.keepK V ⟨k, hk⟩ b c (Det.supp (ov W b c) (sc W b c) k) = Det.kept (ov W b c) (sc W b c) ⟨k, hk⟩ := by
    intro b c
    unfold RefTrip.keepK Det.kept
    rw [h.c1]
    rfl
  refine ⟨?_, ?_, ?_, ?_, ?_, ?_, ?_⟩
  · rw [STEP_main_v94_0]; exact h.c0
  · rw [STEP_main_v94_1]; exact h.c1
  · rw [STEP_main_v94_2]; exact h.c2
  · rw [STEP_main_v94_3]; exact h.c3
  · rw [STEP_main_v94_4]
    refine Eq.trans (b := IntOp.addi (V (Proc.devRef .tc main_v94_4) ix0) 1#32) rfl ?_
    rw [h.c4]
    exact (BitVec.ofNat_add k 1).symm
  · intro b c j
    rw [STEP_main_v94_5, RefTrip.s5_at V ⟨k, hk⟩ h.c4 h.c2 h.c3 b c _ (h.c5 b c) j, hK, h.c0]
    show _ = BitVec.ofBool (_ || _)
    rw [dif_pos hk]
    rfl
  · intro b c i hi
    rw [STEP_main_v94_6, RefTrip.s6_at V ⟨k, hk⟩ h.c4 h.c2 h.c3 b c _ (h.c5 b c) i, hK]
    by_cases he : i = ⟨k, hk⟩
    · rw [if_pos he, he]
    · rw [if_neg he]
      exact h.c6 b c i (by have : i.val ≠ k := fun h => he (Fin.ext h); omega)

/-- Before trip `k` the loop carries trip `k`'s values. -/
theorem inv (h0 : Inv W 0 W) : ∀ k ≤ 200, Inv W k (STEP^[k] W)
  | 0, _ => h0
  | k + 1, hk => by
    rw [Function.iterate_succ_apply']
    exact inv_step W k (by omega) _ (inv h0 k (by omega))

/-- What the loop leaves: which of the candidates tried so far are kept. -/
theorem kept_at (m : (ℓ : Loc nD τ sig) → Buf (Elt Ideal) ℓ) (d : Dev nD)
    (h0 : Inv (StableHlo.entryContents preI m d) 0 (StableHlo.entryContents preI m d))
    (n : ℕ) (hn : n ≤ 200) (i : Fin 200) (hi : i.val < n) (b : Fin 128) (c : Fin 20) : atK m n d (Proc.devRef .tc main_v94_6) (ix3 i b c)
      = BitVec.ofBool (Det.kept (ov (StableHlo.entryContents preI m d) b c) (sc (StableHlo.entryContents preI m d) b c) i) :=
  (congrFun (atK_agree m d n main_v94_6 (by decide)) (ix3 i b c)).trans ((inv _ h0 n hn).c6 b c i hi)

end Cert.Proof.RefLoop
end
-- ==== Proof.RefEntry.lean ====
module

public import proofs.«01_k».proof.Proof.RefRead
public import proofs.«01_k».proof.Proof.RefIou
public import proofs.«01_k».proof.Proof.RefLoop
public import proofs.«01_k».proof.Proof.Softmax
public import proofs.«01_k».proof.Proof.Answer

/-! What the reference's loop starts from, stretch after stretch: the chosen candidates' scores and boxes, their overlaps, and
    nothing suppressed. -/

@[expose] public section

set_option maxRecDepth 16384

noncomputable section

namespace Cert.Proof.RefEntry
open Idealize.ShloMosaic Idealize.ShloMosaic.TcCoe Idealize.SL.Sem
open Cert.ReferenceIdeal Cert.ReferenceIdeal.Gen Cert.ReferenceIdeal.Value

variable (U : Valuation τ sig (Elt Ideal))

/-- After the first stretch. -/
abbrev e0 : Valuation τ sig (Elt Ideal) := StableHlo.after hostOps0 U
/-- After the second. -/
abbrev e1 : Valuation τ sig (Elt Ideal) := StableHlo.after hostOps0_1 (e0 U)
/-- After the third. -/
abbrev e2 : Valuation τ sig (Elt Ideal) := StableHlo.after hostOps0_2 (e1 U)
/-- After the fourth. -/
abbrev e3 : Valuation τ sig (Elt Ideal) := StableHlo.after hostOps0_3 (e2 U)
/-- After the fifth. -/
abbrev e4 : Valuation τ sig (Elt Ideal) := StableHlo.after hostOps0_4 (e3 U)
/-- After the sixth. -/
abbrev e5 : Valuation τ sig (Elt Ideal) := StableHlo.after hostOps0_5 (e4 U)
/-- After the seventh: at the loop's entry. -/
abbrev e6 : Valuation τ sig (Elt Ideal) := StableHlo.after hostOps0_6 (e5 U)

/-- The second stretch keeps what it does not write. -/
theorem k1 (r : Ref sig .tc) (h : r ∉ hostOps0_1_W) : e1 U (Proc.devRef .tc r) = e0 U (Proc.devRef .tc r) :=
  StableHlo.after_of_writes_sub hostOps0_1 _ hostOps0_1_writes h
/-- So does the third. -/
theorem k2 (r : Ref sig .tc) (h : r ∉ hostOps0_2_W) : e2 U (Proc.devRef .tc r) = e1 U (Proc.devRef .tc r) :=
  StableHlo.after_of_writes_sub hostOps0_2 _ hostOps0_2_writes h
/-- So does the fourth. -/
theorem k3 (r : Ref sig .tc) (h : r ∉ hostOps0_3_W) : e3 U (Proc.devRef .tc r) = e2 U (Proc.devRef .tc r) :=
  StableHlo.after_of_writes_sub hostOps0_3 _ hostOps0_3_writes h
/-- So does the fifth. -/
theorem k4 (r : Ref sig .tc) (h : r ∉ hostOps0_4_W) : e4 U (Proc.devRef .tc r) = e3 U (Proc.devRef .tc r) :=
  StableHlo.after_of_writes_sub hostOps0_4 _ hostOps0_4_writes h
/-- So does the sixth. -/
theorem k5 (r : Ref sig .tc) (h : r ∉ hostOps0_5_W) : e5 U (Proc.devRef .tc r) = e4 U (Proc.devRef .tc r) :=
  StableHlo.after_of_writes_sub hostOps0_5 _ hostOps0_5_writes h
/-- So does the seventh. -/
theorem k6 (r : Ref sig .tc) (h : r ∉ hostOps0_6_W) : e6 U (Proc.devRef .tc r) = e5 U (Proc.devRef .tc r) :=
  StableHlo.after_of_writes_sub hostOps0_6 _ hostOps0_6_writes h

/-- The three arguments as read. -/
abbrev loc : Answer.Arr3 4 := U (Proc.devRef .tc main_arg0)
/-- The second. -/
abbrev conf : Answer.Arr3 21 := U (Proc.devRef .tc main_arg1)
/-- The third. -/
abbrev pri : (⟨2, ![8732, 4]⟩ : Shape).Idx → EReal := U (Proc.devRef .tc main_arg2)

/-- The position of the candidate of rank `k`. -/
abbrev pos (b : Fin 128) (c : Fin 20) (k : Fin 200) : Fin 8732 := Det.topPos (Answer.scores (conf U) b c) ⟨k.val, by omega⟩

/-- The chosen scores. -/
theorem values_at0 (b : Fin 128) (c : Fin 20) (k : Fin 200) :
    e0 U (Proc.devRef .tc main_values) (ix3 b c k) = Answer.scores (conf U) b c (pos U b c k) := by
  have hr : (fun n => RefRead.ranked (conf U) (ix3 b c n)) = Answer.scores (conf U) b c := funext fun n => Softmax.ranked_at _ _ _ _ _ _ _ _ b c n
  refine (congrFun (RefRead.values_eq U) (ix3 b c k)).trans ((Softmax.top_values_at (by decide) _ _ b c k).trans ?_)
  rw [hr]
  exact congrFun hr _

/-- The chosen positions. -/
theorem places_at0 (b : Fin 128) (c : Fin 20) (k : Fin 200) :
    e0 U (Proc.devRef .tc main_v40) (ix4 b c k 0) = BitVec.ofNat 32 (pos U b c k).val := by
  have hr : (fun n => RefRead.ranked (conf U) (ix3 b c n)) = Answer.scores (conf U) b c := funext fun n => Softmax.ranked_at _ _ _ _ _ _ _ _ b c n
  refine (RefRead.v40_at U b c k).trans ((Softmax.top_places_at (by decide) _ _ b c k).trans ?_)
  rw [hr]

/-- The chosen boxes. -/
theorem boxes_at1 (b : Fin 128) (c : Fin 20) (k : Fin 200) (d : Fin 4) :
    e1 U (Proc.devRef .tc main_v41) (ix4 b c k d) = Answer.boxes (loc U) (pri U) b (pos U b c k) d :=
  (RefRead.v41_at (e0 U) b c k d _ (places_at0 U b c k)).trans (RefRead.v39_at U b _ d)

/-- At the loop's entry: the chosen scores. -/
theorem values_at (b : Fin 128) (c : Fin 20) (k : Fin 200) :
    e6 U (Proc.devRef .tc main_values) (ix3 b c k) = Answer.scores (conf U) b c (pos U b c k) := by
  rw [k6 U _ (by decide +kernel), k5 U _ (by decide +kernel), k4 U _ (by decide +kernel), k3 U _ (by decide +kernel), k2 U _ (by decide +kernel), k1 U _ (by decide +kernel)]
  exact values_at0 U b c k

/-- At the loop's entry: the chosen boxes. -/
theorem boxes_at (b : Fin 128) (c : Fin 20) (k : Fin 200) (d : Fin 4) :
    e6 U (Proc.devRef .tc main_v41) (ix4 b c k d) = Answer.boxes (loc U) (pri U) b (pos U b c k) d := by
  rw [k6 U _ (by decide +kernel), k5 U _ (by decide +kernel), k4 U _ (by decide +kernel), k3 U _ (by decide +kernel), k2 U _ (by decide +kernel)]
  exact boxes_at1 U b c k d

/-- The chosen boxes, after the sixth stretch. -/
theorem boxes_at5 (b : Fin 128) (c : Fin 20) (k : Fin 200) (d : Fin 4) :
    e5 U (Proc.devRef .tc main_v41) (ix4 b c k d) = Answer.boxes (loc U) (pri U) b (pos U b c k) d := by
  rw [k5 U _ (by decide +kernel), k4 U _ (by decide +kernel), k3 U _ (by decide +kernel), k2 U _ (by decide +kernel)]
  exact boxes_at1 U b c k d

/-- The box of the candidate of rank `k`. -/
abbrev box (b : Fin 128) (c : Fin 20) (k : Fin 200) : Fin 4 → EReal := Answer.boxes (loc U) (pri U) b (pos U b c k)

/-- The shared width. -/
theorem width_at (b : Fin 128) (c : Fin 20) (i j : Fin 200) : e5 U (Proc.devRef .tc main_v59) (ix4 b c i j)
    = max (min (box U b c i 2) (box U b c j 2) - max (box U b c i 0) (box U b c j 0)) 0 := by
  rw [k5 U _ (by decide +kernel)]
  refine (RefIou.v59_at (e3 U) b c i j).trans ((RefIou.v57_at (e2 U) b c i j 0).trans ?_)
  have h0 : e2 U (Proc.devRef .tc main_cst_6) ix0 = (0 : EReal) := RefIou.cst6_at (e1 U)
  have h1 := RefIou.v56_at (e1 U) b c i j 0
  rw [boxes_at1, boxes_at1, boxes_at1, boxes_at1] at h1
  refine (congrArg₂ (max (α := EReal)) h0 h1).trans ?_
  exact max_comm _ _

/-- The shared height. -/
theorem height_at (b : Fin 128) (c : Fin 20) (i j : Fin 200) : e5 U (Proc.devRef .tc main_v61) (ix5 b c i j 1)
    = max (min (box U b c i 3) (box U b c j 3) - max (box U b c i 1) (box U b c j 1)) 0 := by
  refine (RefIou.v61_at (e4 U) b c i j 1).trans ?_
  have h0 : e4 U (Proc.devRef .tc main_cst_7) ix0 = (0 : EReal) := RefIou.cst7_at (e3 U)
  have h1 := RefIou.v55_at (e1 U) b c i j 1
  have h2 := RefIou.v48_at (e1 U) b c i j 1
  have h3 := RefIou.v60_at (e3 U) b c i j 1
  rw [boxes_at1, boxes_at1] at h1 h2
  change e2 U (Proc.devRef .tc main_v55) (ix5 b c i j 1) = _ at h1
  change e2 U (Proc.devRef .tc main_v48) (ix5 b c i j 1) = _ at h2
  rw [k3 U main_v55 (by decide +kernel), k3 U main_v48 (by decide +kernel), h1, h2] at h3
  refine (congrArg₂ (max (α := EReal)) h0 h3).trans ?_
  exact max_comm _ _

/-- The overlaps the loop starts from. -/
theorem ov_at (b : Fin 128) (c : Fin 20) (i j : Fin 200) : RefLoop.ov (e6 U) b c i j = Det.iou (box U b c i) (box U b c j) := by
  refine (RefIou.v94_0_at (e5 U) i b c j).trans ?_
  rw [width_at, height_at, show (fun d => e5 U (Proc.devRef .tc main_v41) (ix4 b c i d)) = box U b c i from funext fun d => boxes_at5 U b c i d,
    show (fun d => e5 U (Proc.devRef .tc main_v41) (ix4 b c j d)) = box U b c j from funext fun d => boxes_at5 U b c j d]
  rfl

/-- The scores the loop starts from. -/
theorem sc_at (b : Fin 128) (c : Fin 20) (i : Fin 200) : RefLoop.sc (e6 U) b c i = Answer.scores (conf U) b c (pos U b c i) := by
  refine (RefIou.v94_1_at (e5 U) i b c).trans ?_
  rw [k5 U _ (by decide +kernel), k4 U _ (by decide +kernel), k3 U _ (by decide +kernel), k2 U _ (by decide +kernel), k1 U _ (by decide +kernel)]
  exact values_at0 U b c i

/-- What the loop carries at its entry. -/
theorem inv0 : RefLoop.Inv (e6 U) 0 (e6 U) :=
  ⟨rfl, rfl, RefIou.v94_2_at (e5 U), RefIou.v94_3_at (e5 U), RefIou.v94_4_at (e5 U), fun b c j => RefIou.v94_5_at (e5 U) b c j,
    fun _ _ i hi => absurd hi (Nat.not_lt_zero _)⟩

end Cert.Proof.RefEntry
end
-- ==== Proof.RefPost.lean ====
module

public import proofs.«01_k».proof.Proof.RefIou
public import proofs.«01_k».proof.Proof.Words

/-! What the reference makes of the loop's answer: the kept candidates' scores and boxes, and zeros elsewhere. -/

@[expose] public section

set_option maxRecDepth 16384

noncomputable section

namespace Cert.Proof.RefPost
open Idealize.ShloMosaic Idealize.ShloMosaic.TcCoe Idealize.SL.Sem
open Cert.ReferenceIdeal Cert.ReferenceIdeal.Gen Cert.ReferenceIdeal.Value

variable (U : Valuation τ sig (Elt Ideal))

/-- The first stretch writes two buffers. -/
theorem keep7 (r : Ref sig .tc) (h : r ∉ [main_v95, main_cst_11]) :
    StableHlo.after hostOps0_7 U (Proc.devRef .tc r) = U (Proc.devRef .tc r) :=
  StableHlo.after_of_writes_sub (W := [main_v95, main_cst_11]) _ _ (StableHlo.forall_writes_sub_of_map rfl) h

/-- The second writes three. -/
theorem keep8 (r : Ref sig .tc) (h : r ∉ [main_call7_v0, main_call7_v1, main_v96]) :
    StableHlo.after hostOps0_8 U (Proc.devRef .tc r) = U (Proc.devRef .tc r) :=
  StableHlo.after_of_writes_sub (W := [main_call7_v0, main_call7_v1, main_v96]) _ _ (StableHlo.forall_writes_sub_of_map rfl) h

/-- The third writes two. -/
theorem keep9 (r : Ref sig .tc) (h : r ∉ [main_v97, main_cst_12]) :
    StableHlo.after hostOps0_9 U (Proc.devRef .tc r) = U (Proc.devRef .tc r) :=
  StableHlo.after_of_writes_sub (W := [main_v97, main_cst_12]) _ _ (StableHlo.forall_writes_sub_of_map rfl) h

/-- The fourth writes four. -/
theorem keep10 (r : Ref sig .tc) (h : r ∉ [main_call8_v0, main_call8_v1, main_call8_v2, main_v98]) :
    StableHlo.after hostOps0_10 U (Proc.devRef .tc r) = U (Proc.devRef .tc r) :=
  StableHlo.after_of_writes_sub (W := [main_call8_v0, main_call8_v1, main_call8_v2, main_v98]) _ _ (StableHlo.forall_writes_sub_of_map rfl) h

/-- Which candidates are kept, class first. -/
theorem v95_at (b : Fin 128) (c : Fin 20) (k : Fin 200) :
    StableHlo.after hostOps0_7 U (Proc.devRef .tc main_v95) (ix3 b c k) = U (Proc.devRef .tc main_v94_6) (ix3 k b c) := by
  after_reads_at

/-- The score of what is not kept. -/
theorem cst11_at : StableHlo.after hostOps0_7 U (Proc.devRef .tc main_cst_11) ix0 = (0 : EReal) := by
  after_reads_at

/-- The scores of what is kept. -/
theorem v96_at (b : Fin 128) (c : Fin 20) (k : Fin 200) (p : Bool) (h : U (Proc.devRef .tc main_v95) (ix3 b c k) = BitVec.ofBool p)
    (h0 : U (Proc.devRef .tc main_cst_11) ix0 = (0 : EReal)) :
    StableHlo.after hostOps0_8 U (Proc.devRef .tc main_v96) (ix3 b c k) = if p then RefIou.E (U (Proc.devRef .tc main_values) (ix3 b c k)) else 0 := by
  after_reads_at
  pointwise [id_eq]
  rw [h, h0]
  cases p <;> rfl

/-- Which candidates are kept, with an entry axis. -/
theorem v97_at (b : Fin 128) (c : Fin 20) (k : Fin 200) :
    StableHlo.after hostOps0_9 U (Proc.devRef .tc main_v97) (ix4 b c k 0) = U (Proc.devRef .tc main_v95) (ix3 b c k) := by
  after_reads_at

/-- The box of what is not kept. -/
theorem cst12_at : StableHlo.after hostOps0_9 U (Proc.devRef .tc main_cst_12) ix0 = (0 : EReal) := by
  after_reads_at

/-- The boxes of what is kept. -/
theorem v98_at (b : Fin 128) (c : Fin 20) (k : Fin 200) (d : Fin 4) (p : Bool) (h : U (Proc.devRef .tc main_v97) (ix4 b c k 0) = BitVec.ofBool p)
    (h0 : U (Proc.devRef .tc main_cst_12) ix0 = (0 : EReal)) :
    StableHlo.after hostOps0_10 U (Proc.devRef .tc main_v98) (ix4 b c k d) = if p then RefIou.E (U (Proc.devRef .tc main_v41) (ix4 b c k d)) else 0 := by
  after_reads_at
  pointwise [id_eq]
  rw [h, h0]
  cases p <;> rfl

/-- The result, from scores and boxes. -/
theorem v102_at (b : Fin 128) (c : Fin 21) (k : Fin 200) (d : Fin 5) :
    StableHlo.after hostOps0_11 U (Proc.devRef .tc main_v102) (ix4 b c k d)
      = if h : c.val < 1 then (0 : EReal) else if hd : d.val < 1 then RefIou.E (U (Proc.devRef .tc main_v96) (ix3 b ⟨c.val - 1, by omega⟩ k))
        else RefIou.E (U (Proc.devRef .tc main_v98) (ix4 b ⟨c.val - 1, by omega⟩ k ⟨d.val - 1, by omega⟩)) := by
  after_reads_at
  by_cases h : c.val < 1
  · rw [dif_pos h, dif_pos h]
  · rw [dif_neg h, dif_neg h]
    by_cases hd : d.val < 1
    · rw [dif_pos hd, dif_pos hd]
      after_reads_at
    · rw [dif_neg hd, dif_neg hd]
      after_reads_at

end Cert.Proof.RefPost
end
-- ==== Proof.RefValue.lean ====
module

public import proofs.«01_k».proof.Proof.RefEntry
public import proofs.«01_k».proof.Proof.RefPost
public import proofs.«01_k».proof.Proof.RefFrame

/-! The reference's result is the answer: its loop keeps the candidates the answer keeps, and the rest is laying out. -/

@[expose] public section

set_option maxRecDepth 16384

noncomputable section

namespace Cert.Proof.RefValue
open Idealize.ShloMosaic Idealize.ShloMosaic.TcCoe Idealize.SL.Sem
open Cert.ReferenceIdeal Cert.ReferenceIdeal.Gen Cert.ReferenceIdeal.Value

section Post
variable (U : Valuation τ sig (Elt Ideal))

/-- After the loop, first stretch. -/
abbrev f7 : Valuation τ sig (Elt Ideal) := StableHlo.after hostOps0_7 U
/-- Second. -/
abbrev f8 : Valuation τ sig (Elt Ideal) := StableHlo.after hostOps0_8 (f7 U)
/-- Third. -/
abbrev f9 : Valuation τ sig (Elt Ideal) := StableHlo.after hostOps0_9 (f8 U)
/-- Fourth. -/
abbrev f10 : Valuation τ sig (Elt Ideal) := StableHlo.after hostOps0_10 (f9 U)
/-- Fifth: the result. -/
abbrev f11 : Valuation τ sig (Elt Ideal) := StableHlo.after hostOps0_11 (f10 U)

/-- Which candidates are kept, class first. -/
theorem mask_at (b : Fin 128) (c : Fin 20) (k : Fin 200) (p : Bool) (hp : U (Proc.devRef .tc main_v94_6) (ix3 k b c) = BitVec.ofBool p) :
    f7 U (Proc.devRef .tc main_v95) (ix3 b c k) = BitVec.ofBool p :=
  (RefPost.v95_at U b c k).trans hp

/-- The scores as laid out. -/
theorem score_at (b : Fin 128) (c : Fin 20) (k : Fin 200) (p : Bool) (hp : U (Proc.devRef .tc main_v94_6) (ix3 k b c) = BitVec.ofBool p) :
    f10 U (Proc.devRef .tc main_v96) (ix3 b c k) = if p then RefIou.E (U (Proc.devRef .tc main_values) (ix3 b c k)) else 0 := by
  refine (congrFun ((RefPost.keep10 (f9 U) main_v96 (by decide +kernel)).trans (RefPost.keep9 (f8 U) main_v96 (by decide +kernel))) _).trans ?_
  refine (RefPost.v96_at (f7 U) b c k p (mask_at U b c k p hp) (RefPost.cst11_at U)).trans ?_
  rw [show f7 U (Proc.devRef .tc main_values) = _ from RefPost.keep7 U main_values (by decide +kernel)]

/-- The boxes as laid out. -/
theorem box_at (b : Fin 128) (c : Fin 20) (k : Fin 200) (d : Fin 4) (p : Bool) (hp : U (Proc.devRef .tc main_v94_6) (ix3 k b c) = BitVec.ofBool p) :
    f10 U (Proc.devRef .tc main_v98) (ix4 b c k d) = if p then RefIou.E (U (Proc.devRef .tc main_v41) (ix4 b c k d)) else 0 := by
  have h8 : f8 U (Proc.devRef .tc main_v95) (ix3 b c k) = BitVec.ofBool p :=
    (congrFun (RefPost.keep8 (f7 U) main_v95 (by decide +kernel)) _).trans (mask_at U b c k p hp)
  refine (RefPost.v98_at (f9 U) b c k d p ((RefPost.v97_at (f8 U) b c k).trans h8) (RefPost.cst12_at (f8 U))).trans ?_
  rw [show f9 U (Proc.devRef .tc main_v41) = U (Proc.devRef .tc main_v41) from (RefPost.keep9 (f8 U) main_v41 (by decide +kernel)).trans
    ((RefPost.keep8 (f7 U) main_v41 (by decide +kernel)).trans (RefPost.keep7 U main_v41 (by decide +kernel)))]

/-- The result, from what the loop left. -/
theorem result_at (b : Fin 128) (c : Fin 21) (k : Fin 200) (d : Fin 5) (p : Fin 20 → Bool)
    (hp : ∀ c, U (Proc.devRef .tc main_v94_6) (ix3 k b c) = BitVec.ofBool (p c)) :
    f11 U (Proc.devRef .tc main_v102) (ix4 b c k d)
      = if h : c.val < 1 then (0 : EReal) else if p ⟨c.val - 1, by omega⟩ then
          if hd : d.val < 1 then RefIou.E (U (Proc.devRef .tc main_values) (ix3 b ⟨c.val - 1, by omega⟩ k))
          else RefIou.E (U (Proc.devRef .tc main_v41) (ix4 b ⟨c.val - 1, by omega⟩ k ⟨d.val - 1, by omega⟩))
        else 0 := by
  refine (RefPost.v102_at (f10 U) b c k d).trans ?_
  by_cases h : c.val < 1
  · rw [dif_pos h, dif_pos h]
  · rw [dif_neg h, dif_neg h]
    have hs := score_at U b ⟨c.val - 1, by omega⟩ k _ (hp _)
    by_cases hd : d.val < 1
    · rw [dif_pos hd, dif_pos hd]
      exact hs
    · rw [dif_neg hd, dif_neg hd]
      exact box_at U b ⟨c.val - 1, by omega⟩ k ⟨d.val - 1, by omega⟩ _ (hp _)

end Post

variable (m : (ℓ : Loc nD τ sig) → Buf (Elt Ideal) ℓ) (d : Dev nD)

/-- What is launched. -/
abbrev L : Valuation τ sig (Elt Ideal) := StableHlo.launchContents m d

/-- The loop's entry, stretch after stretch. -/
theorem entry_eq : StableHlo.entryContents preI m d = RefEntry.e6 (L m d) := by
  simp only [StableHlo.entryContents, StableHlo.afterL_cons, StableHlo.afterL_nil]

/-- The buffers at the loop's exit. -/
abbrev X : Valuation τ sig (Elt Ideal) := StableHlo.after condOps (atK m 200 d)

/-- The exit keeps what the loop does not write. -/
theorem exit_keep (r : Ref sig .tc) (h : r ∉ RefFrame.loopW) (hc : r ∉ condOps_W) :
    X m d (Proc.devRef .tc r) = RefEntry.e6 (L m d) (Proc.devRef .tc r) :=
  (StableHlo.after_of_writes_sub condOps _ condOps_writes hc).trans
    ((RefFrame.atK_keep m d r h 200).trans (congrFun (entry_eq m d) _))

/-- What is kept, at the exit. -/
theorem exit_kept (b : Fin 128) (c : Fin 20) (k : Fin 200) : X m d (Proc.devRef .tc main_v94_6) (ix3 k b c)
    = BitVec.ofBool (Det.kept (fun i j => Det.iou (RefEntry.box (L m d) b c i) (RefEntry.box (L m d) b c j))
        (fun i => Answer.scores (RefEntry.conf (L m d)) b c (RefEntry.pos (L m d) b c i)) k) := by
  refine (congrFun (cond_keeps (atK m 200 d) main_v94_6 (by decide)) _).trans ?_
  refine (RefLoop.kept_at m d (by rw [entry_eq]; exact RefEntry.inv0 (L m d)) 200 (le_refl _) k k.isLt b c).trans ?_
  rw [entry_eq, show RefLoop.ov (RefEntry.e6 (L m d)) b c = _ from funext fun i => funext fun j => RefEntry.ov_at (L m d) b c i j,
    show RefLoop.sc (RefEntry.e6 (L m d)) b c = _ from funext fun i => RefEntry.sc_at (L m d) b c i]

/-- The reference's result, one place at a time. -/
theorem value_at (b : Fin 128) (c : Fin 21) (k : Fin 200) (e : Fin 5) :
    StableHlo.finalContents condOps preI bodyI postI 200 m d (Proc.devRef .tc main_v102) (ix4 b c k e)
      = Answer.at' (RefEntry.loc (L m d)) (RefEntry.conf (L m d)) (RefEntry.pri (L m d)) b c k e := by
  have hf : StableHlo.finalContents condOps preI bodyI postI 200 m d = f11 (X m d) := by
    simp only [StableHlo.finalContents, StableHlo.afterL_cons, StableHlo.afterL_nil]
  rw [hf]
  refine (result_at (X m d) b c k e _ fun c => exit_kept m d b c k).trans ?_
  unfold Answer.at' Det.entry
  by_cases h : c.val < 1
  · rw [dif_pos h, dif_pos h]
  · rw [dif_neg h, dif_neg h]
    refine if_congr Iff.rfl ?_ rfl
    by_cases hd : e.val < 1
    · have h0 : e.val = 0 := by omega
      rw [dif_pos hd, dif_pos h0, exit_keep m d main_values (by decide +kernel) (by decide +kernel)]
      exact RefEntry.values_at (L m d) b _ k
    · have h0 : ¬ e.val = 0 := by omega
      rw [dif_neg hd, dif_neg h0, exit_keep m d main_v41 (by decide +kernel) (by decide +kernel)]
      exact RefEntry.boxes_at (L m d) b _ k _

/-- The reference's result is the answer. -/
theorem value : StableHlo.finalContents condOps preI bodyI postI 200 m d (Proc.devRef .tc main_v102)
    = Answer.answer (m ((d : Thread nD τ).loc main_arg0)) (m ((d : Thread nD τ).loc main_arg1)) (m ((d : Thread nD τ).loc main_arg2)) :=
  funext fun y => (congrArg _ (ValueIdx.eq_ix4 y)).trans (value_at m d (y 0) (y 1) (y 2) (y 3))

end Cert.Proof.RefValue
end
-- ==== Proof.KernelRun.lean ====
module

public import proofs.«01_k».proof.Proof.Gen.KernelIdeal.Frame

/-! The kernel's launch with its result in view: every run ends with the result array at the last boundary's contents. -/

@[expose] public section

set_option maxRecDepth 16384

noncomputable section

namespace Cert.Proof.KernelRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run ends with the result array as the last host stretch leaves it, the arguments unchanged. -/
theorem run : θ_run defs (onTc (τ := τ) (main (F := F))) ⟨m, fun _ => 0, ρ⟩ (fun r => ∀ c : Dev nD,
      r.2.mem ((c.tc : Thread nD τ).loc main_v18) = W9 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v18 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.Proof.KernelRun
end
-- ==== Proof.HostRead.lean ====
module

public import proofs.«01_k».proof.Proof.NmsRead
public import proofs.«01_k».proof.Proof.Gathers
public import Idealize.ShloMosaic.Lib.StableHlo.ReadAt

/-! What the kernel's host stretches around its two calls compute, one place at a time. -/

@[expose] public section

set_option maxRecDepth 16384

noncomputable section

namespace Cert.Proof.HostRead
open Idealize.ShloMosaic Idealize.ShloMosaic.TcCoe Idealize.SL.Sem
open Cert.KernelIdeal Cert.KernelIdeal.Gen

variable (U : Valuation τ sig (Elt Ideal))

/-- The logits with classes ahead of boxes. -/
theorem v0_at (b : Fin 128) (ch : Fin 21) (n : Fin 8732) :
    StableHlo.after hostOps0 U (Proc.devRef .tc main_v0) (ix3 b ch n) = U (Proc.devRef .tc main_arg1) (ix3 b n ch) := by
  after_reads_at

/-- Padding keeps every real box. -/
theorem v1_at (b : Fin 128) (ch : Fin 21) (n : Fin 8960) (h : n.val < 8732) :
    StableHlo.after hostOps0_1 U (Proc.devRef .tc main_v1) (ix3 b ch n) = U (Proc.devRef .tc main_v0) (ix3 b ch ⟨n.val, h⟩) := by
  after_reads_at
  rw [dif_pos h]

/-- The positions, capped at the last real box. -/
theorem v4_at (b : Fin 128) (c : Fin 20) (k : Fin 200) :
    StableHlo.after hostOps1 U (Proc.devRef .tc main_v4) (ix3 b c k) = IntOp.minsi (U (Proc.devRef .tc main_v2_1) (ix3 b c k)) 8731#32 := by
  after_reads_at

/-- The box offsets with a unit class axis. -/
theorem v5_at (b : Fin 128) (n : Fin 8732) (d : Fin 4) :
    StableHlo.after hostOps1 U (Proc.devRef .tc main_v5) (ix4 b 0 n d) = U (Proc.devRef .tc main_arg0) (ix3 b n d) := by
  after_reads_at

/-- The capped positions with a unit coordinate axis. -/
theorem v6_at (b : Fin 128) (c : Fin 20) (k : Fin 200) :
    StableHlo.after hostOps1 U (Proc.devRef .tc main_v6) (ix4 b c k 0) = IntOp.minsi (U (Proc.devRef .tc main_v2_1) (ix3 b c k)) 8731#32 := by
  after_reads_at

/-- The gathered offsets are those of the named box. -/
theorem v7_at (b : Fin 128) (c : Fin 20) (k : Fin 200) (d : Fin 4) (n : Fin 8732) (h : U (Proc.devRef .tc main_v6) (ix4 b c k 0) = BitVec.ofNat 32 n.val) :
    StableHlo.after hostOps1_1 U (Proc.devRef .tc main_v7) (ix4 b c k d) = U (Proc.devRef .tc main_v5) (ix4 b 0 n d) := by
  after_reads_at
  refine (congrArg₂ (fun w v => Scalar.select w v _) (Gathers.fold_unit _ ?_) (Gathers.along_at _ _ _ b c k d n ?_)).trans ?_
  · show IntOp.andi (IntOp.cmpi .sge (Scalar.select (IntOp.cmpi .slt (U (Proc.devRef .tc main_v6) (ix4 b c k 0)) 0#32) (IntOp.addi (U (Proc.devRef .tc main_v6) (ix4 b c k 0)) 8732#32) (U (Proc.devRef .tc main_v6) (ix4 b c k 0))) 0#32) (IntOp.cmpi .sle (Scalar.select (IntOp.cmpi .slt (U (Proc.devRef .tc main_v6) (ix4 b c k 0)) 0#32) (IntOp.addi (U (Proc.devRef .tc main_v6) (ix4 b c k 0)) 8732#32) (U (Proc.devRef .tc main_v6) (ix4 b c k 0))) 8731#32) = 1#1
    rw [Gathers.wrap_at n _ h]
    exact Gathers.bound_at n
  · exact Gathers.wrap_at n _ h
  · rfl

/-- The gathered priors are those of the named box. -/
theorem v8_at (b : Fin 128) (c : Fin 20) (k : Fin 200) (d : Fin 4) (n : Fin 8732) (h : U (Proc.devRef .tc main_v4) (ix3 b c k) = BitVec.ofNat 32 n.val) :
    StableHlo.after hostOps1_2 U (Proc.devRef .tc main_v8) (ix4 b c k d) = U (Proc.devRef .tc main_arg2) (ix2 n d) := by
  after_reads_at
  refine (congrArg₂ (fun w v => Scalar.select w v _) (Gathers.fold_unit _ ?_) (Gathers.rows_at _ _ _ b c k d n ?_)).trans ?_
  · show IntOp.andi (IntOp.cmpi .sge (Scalar.select (IntOp.cmpi .slt (U (Proc.devRef .tc main_v4) (ix3 b c k)) 0#32) (IntOp.addi (U (Proc.devRef .tc main_v4) (ix3 b c k)) 8732#32) (U (Proc.devRef .tc main_v4) (ix3 b c k))) 0#32) (IntOp.cmpi .sle (Scalar.select (IntOp.cmpi .slt (U (Proc.devRef .tc main_v4) (ix3 b c k)) 0#32) (IntOp.addi (U (Proc.devRef .tc main_v4) (ix3 b c k)) 8732#32) (U (Proc.devRef .tc main_v4) (ix3 b c k))) 8731#32) = 1#1
    rw [Gathers.wrap_at n _ h]
    exact Gathers.bound_at n
  · refine (?_ : _ = Scalar.select (IntOp.cmpi .slt (U (Proc.devRef .tc main_v4) (ix3 b c k)) 0#32) (IntOp.addi (U (Proc.devRef .tc main_v4) (ix3 b c k)) 8732#32) (U (Proc.devRef .tc main_v4) (ix3 b c k))).trans (Gathers.wrap_at n _ h)
    pointwise
  · rfl

/-- The picked scores, laid out for the second call. -/
theorem v9_at (b : Fin 128) (c : Fin 20) (k : Fin 200) :
    StableHlo.after hostOps1_3 U (Proc.devRef .tc main_v9) (ix3 c k b) = U (Proc.devRef .tc main_v2_0) (ix3 b c k) := by
  after_reads_at

/-- The gathered offsets, laid out for the second call. -/
theorem v10_at (b : Fin 128) (c : Fin 20) (k : Fin 200) (d : Fin 4) :
    StableHlo.after hostOps1_3 U (Proc.devRef .tc main_v10) (ix4 c d k b) = U (Proc.devRef .tc main_v7) (ix4 b c k d) := by
  after_reads_at

/-- The gathered priors, laid out for the second call. -/
theorem v11_at (b : Fin 128) (c : Fin 20) (k : Fin 200) (d : Fin 4) :
    StableHlo.after hostOps1_3 U (Proc.devRef .tc main_v11) (ix4 c d k b) = U (Proc.devRef .tc main_v8) (ix4 b c k d) := by
  after_reads_at

/-- The result: zeros for the background class, then each class's scores and boxes. -/
theorem v18_at (b : Fin 128) (c : Fin 21) (k : Fin 200) (d : Fin 5) :
    StableHlo.after hostOps2 U (Proc.devRef .tc main_v18) (ix4 b c k d)
      = if hc : c.val < 1 then (0 : EReal) else if hd : d.val < 1 then U (Proc.devRef .tc main_v12_0) (ix3 ⟨c.val - 1, by omega⟩ k b)
        else U (Proc.devRef .tc main_v12_1) (ix4 ⟨c.val - 1, by omega⟩ ⟨d.val - 1, by omega⟩ k b) := by
  after_reads_at
  by_cases hc : c.val < 1
  · rw [dif_pos hc, dif_pos hc]
  · rw [dif_neg hc, dif_neg hc]
    by_cases hd : d.val < 1
    · rw [dif_pos hd, dif_pos hd]
      after_reads_at
    · rw [dif_neg hd, dif_neg hd]
      after_reads_at

end Cert.Proof.HostRead
end
-- ==== Proof.Arr.lean ====
module

public import proofs.«01_k».proof.Proof.PickRead
public import proofs.«01_k».proof.Proof.NmsRead
public import Idealize.ShloMosaic.Lib.Pipeline.ValueKit

/-! What the two calls leave in their output arrays, as functions of the arrays they read: block by block, each grid
    point writing its own image (selection) or its own class (suppression). -/

@[expose] public section

set_option maxRecDepth 16384

noncomputable section

namespace Cert.Proof.Arr
open Idealize.ShloMosaic Idealize.ShloMosaic.TcCoe Idealize.SL.Sem
open Idealize.ShloMosaic.Pipeline (Dat)
open Cert.KernelIdeal Cert.KernelIdeal.Gen Cert.Proof.PickBlock

/-- Image `b`'s part of the padded logits. -/
def image (A : Vec Ideal S128x21x8960 .f32) (b : Fin 128) : Vec Ideal S1x21x8960 .f32 := fun x => A (ix3 b (x 1) (x 2))

/-- The selection call's index maps. -/
theorem idx0 : ∀ t : Fin cfg0.N, win0_0.index t = ![t.val, 0, 0] ∧ win0_1.index t = ![t.val, 0, 0] ∧ win0_2.index t = ![t.val, 0, 0] :=
  (by decide +kernel : ∀ t : Fin grid0.N, _)

/-- The suppression call's index maps. -/
theorem idx1 : ∀ t : Fin cfg1.N, win1_0.index t = ![t.val, 0, 0] ∧ win1_1.index t = ![t.val, 0, 0, 0] ∧ win1_2.index t = ![t.val, 0, 0, 0]
    ∧ win1_3.index t = ![t.val, 0, 0] ∧ win1_4.index t = ![t.val, 0, 0, 0] :=
  (by decide +kernel : ∀ t : Fin grid1.N, _)

variable (V : (c : Dev nD) → (b : Ref sig .tc) → Buf (Elt Ideal) ((c : Thread nD τ).loc b))

/-- The selection call's input block at grid point `t`. -/
theorem block0 (c : Dev nD) (t : Fin cfg0.N) (b : Fin 128) (hb : b.val = t.val) :
    iblk0 V c 0 t = image (V c main_v1) b := by
  funext x
  show V c main_v1 _ = V c main_v1 _
  congr 1
  have h := (idx0 t).1
  have h0 : (x 0).val = 0 := Nat.lt_one_iff.mp (x 0).isLt
  refine funext fun a => Fin.ext ?_
  match a with
  | 0 => show win0_0.index t 0 * 1 + 1 * (x 0).val = b.val; rw [h, hb, h0]; show t.val * 1 + 1 * 0 = t.val; omega
  | 1 => show win0_0.index t 1 * 21 + 1 * (x 1).val = (x 1).val; rw [h]; show 0 * 21 + _ = _; omega
  | 2 => show win0_0.index t 2 * 8960 + 1 * (x 2).val = (x 2).val; rw [h]; show 0 * 8960 + _ = _; omega

/-- What the selection call leaves as values. -/
theorem topS (c : Dev nD) : (dat0 V c).arrAt 1 cfg0.N
    = fun y : S128x20x200.Idx => k0_pay8 (accS (image (V c main_v1) (y 0)) 200) (ix3 0 (y 1) (y 2)) := by
  refine (dat0 V c).arrAt_eq_of_covers 1 _ (by decide +kernel) fun t _ y => ?_
  blk_simp
  rw [after0_1]
  unfold outsAt0
  dsimp only
  have h := (idx0 t).2.1
  have h0 : (y 0).val = 0 := Nat.lt_one_iff.mp (y 0).isLt
  rw [out1, block0 V c t (((View.whole main_v2_0).slice (win0_1.rect t)).emb y 0)]
  · congr 1
    refine funext fun a => Fin.ext ?_
    match a with
    | 0 => exact h0
    | 1 => show (y 1).val = win0_1.index t 1 * 20 + 1 * (y 1).val; rw [h]; show _ = 0 * 20 + _; omega
    | 2 => show (y 2).val = win0_1.index t 2 * 200 + 1 * (y 2).val; rw [h]; show _ = 0 * 200 + _; omega
  · show win0_1.index t 0 * 1 + 1 * (y 0).val = t.val; rw [h, h0]; show t.val * 1 + _ = _; omega
/-- What the selection call leaves as positions. -/
theorem topI (c : Dev nD) : (dat0 V c).arrAt 2 cfg0.N
    = fun y : S128x20x200.Idx => k0_pay9 (accI (image (V c main_v1) (y 0)) 200) (ix3 0 (y 1) (y 2)) := by
  refine (dat0 V c).arrAt_eq_of_covers 2 _ (by decide +kernel) fun t _ y => ?_
  blk_simp
  rw [after0_2]
  unfold outsAt0
  dsimp only
  have h := (idx0 t).2.2
  have h0 : (y 0).val = 0 := Nat.lt_one_iff.mp (y 0).isLt
  rw [out2, block0 V c t (((View.whole main_v2_1).slice (win0_2.rect t)).emb y 0)]
  · congr 1
    refine funext fun a => Fin.ext ?_
    match a with
    | 0 => exact h0
    | 1 => show (y 1).val = win0_2.index t 1 * 20 + 1 * (y 1).val; rw [h]; show _ = 0 * 20 + _; omega
    | 2 => show (y 2).val = win0_2.index t 2 * 200 + 1 * (y 2).val; rw [h]; show _ = 0 * 200 + _; omega
  · show win0_2.index t 0 * 1 + 1 * (y 0).val = t.val; rw [h, h0]; show t.val * 1 + _ = _; omega

/-- Class `b`'s part of an array of one number per candidate. -/
def slab3 (A : Vec Ideal S20x200x128 .f32) (b : Fin 20) : Vec Ideal S1x200x128 .f32 := fun x => A (ix3 b (x 1) (x 2))

/-- Class `b`'s part of an array of four numbers per candidate. -/
def slab4 (A : Vec Ideal S20x4x200x128 .f32) (b : Fin 20) : Vec Ideal S1x4x200x128 .f32 := fun x => A (ix4 b (x 1) (x 2) (x 3))

/-- The block of scores the suppression kernel writes. -/
def keptScores (x0 : Vec Ideal S1x200x128 .f32) (x1 x2 : Vec Ideal S1x4x200x128 .f32) : Vec Ideal S1x200x128 .f32 :=
  k1_pay99 (k1_pay3 x0) (k1_pay97 (NmsBlock.supS (k1_pay3 x0) (NmsBlock.table x1 x2) 200))

/-- The input block `main_v9` at grid point `t`. -/
theorem block1s (c : Dev nD) (t : Fin cfg1.N) (b : Fin 20) (hb : b.val = t.val) :
    iblk1 V c 0 t = slab3 (V c main_v9) b := by
  funext x
  show V c main_v9 _ = V c main_v9 _
  congr 1
  have h := (idx1 t).1
  have h0 : (x 0).val = 0 := Nat.lt_one_iff.mp (x 0).isLt
  refine funext fun a => Fin.ext ?_
  match a with
  | 0 => show win1_0.index t 0 * 1 + 1 * (x 0).val = b.val; rw [h, hb, h0]; show t.val * 1 + 1 * 0 = t.val; omega
  | 1 => show win1_0.index t 1 * 200 + 1 * (x 1).val = (x 1).val; rw [h]; show 0 * 200 + _ = _; omega
  | 2 => show win1_0.index t 2 * 128 + 1 * (x 2).val = (x 2).val; rw [h]; show 0 * 128 + _ = _; omega

/-- The input block `main_v10` at grid point `t`. -/
theorem block1l (c : Dev nD) (t : Fin cfg1.N) (b : Fin 20) (hb : b.val = t.val) :
    iblk1 V c 1 t = slab4 (V c main_v10) b := by
  funext x
  show V c main_v10 _ = V c main_v10 _
  congr 1
  have h := (idx1 t).2.1
  have h0 : (x 0).val = 0 := Nat.lt_one_iff.mp (x 0).isLt
  refine funext fun a => Fin.ext ?_
  match a with
  | 0 => show win1_1.index t 0 * 1 + 1 * (x 0).val = b.val; rw [h, hb, h0]; show t.val * 1 + 1 * 0 = t.val; omega
  | 1 => show win1_1.index t 1 * 4 + 1 * (x 1).val = (x 1).val; rw [h]; show 0 * 4 + _ = _; omega
  | 2 => show win1_1.index t 2 * 200 + 1 * (x 2).val = (x 2).val; rw [h]; show 0 * 200 + _ = _; omega
  | 3 => show win1_1.index t 3 * 128 + 1 * (x 3).val = (x 3).val; rw [h]; show 0 * 128 + _ = _; omega

/-- The input block `main_v11` at grid point `t`. -/
theorem block1p (c : Dev nD) (t : Fin cfg1.N) (b : Fin 20) (hb : b.val = t.val) :
    iblk1 V c 2 t = slab4 (V c main_v11) b := by
  funext x
  show V c main_v11 _ = V c main_v11 _
  congr 1
  have h := (idx1 t).2.2.1
  have h0 : (x 0).val = 0 := Nat.lt_one_iff.mp (x 0).isLt
  refine funext fun a => Fin.ext ?_
  match a with
  | 0 => show win1_2.index t 0 * 1 + 1 * (x 0).val = b.val; rw [h, hb, h0]; show t.val * 1 + 1 * 0 = t.val; omega
  | 1 => show win1_2.index t 1 * 4 + 1 * (x 1).val = (x 1).val; rw [h]; show 0 * 4 + _ = _; omega
  | 2 => show win1_2.index t 2 * 200 + 1 * (x 2).val = (x 2).val; rw [h]; show 0 * 200 + _ = _; omega
  | 3 => show win1_2.index t 3 * 128 + 1 * (x 3).val = (x 3).val; rw [h]; show 0 * 128 + _ = _; omega

/-- What the suppression kernel's call leaves in `main_v12_0`. -/
theorem outS (c : Dev nD) : (dat1 V c).arrAt 3 cfg1.N
    = fun y : S20x200x128.Idx => keptScores (slab3 (V c main_v9) (y 0)) (slab4 (V c main_v10) (y 0)) (slab4 (V c main_v11) (y 0)) (ix3 0 (y 1) (y 2)) := by
  refine (dat1 V c).arrAt_eq_of_covers 3 _ (by decide +kernel) fun t _ y => ?_
  blk_simp
  rw [after1_3]
  unfold outsAt1
  dsimp only
  have h := (idx1 t).2.2.2.1
  have h0 : (y 0).val = 0 := Nat.lt_one_iff.mp (y 0).isLt
  have hb : (((View.whole main_v12_0).slice (win1_3.rect t)).emb y 0).val = t.val := by
    show win1_3.index t 0 * 1 + 1 * (y 0).val = t.val; rw [h, h0]; show t.val * 1 + _ = _; omega
  rw [NmsBlock.out3, block1s V c t _ hb, block1l V c t _ hb, block1p V c t _ hb]
  unfold keptScores
  congr 1
  refine funext fun a => Fin.ext ?_
  match a with
  | 0 => exact h0
  | 1 => show (y 1).val = win1_3.index t 1 * 200 + 1 * (y 1).val; rw [h]; show _ = 0 * 200 + _; omega
  | 2 => show (y 2).val = win1_3.index t 2 * 128 + 1 * (y 2).val; rw [h]; show _ = 0 * 128 + _; omega

/-- What the suppression kernel's call leaves in `main_v12_1`. -/
theorem outB (c : Dev nD) : (dat1 V c).arrAt 4 cfg1.N
    = fun y : S20x4x200x128.Idx => NmsBlock.boxes (slab3 (V c main_v9) (y 0)) (slab4 (V c main_v10) (y 0)) (slab4 (V c main_v11) (y 0)) (ix4 0 (y 1) (y 2) (y 3)) := by
  refine (dat1 V c).arrAt_eq_of_covers 4 _ (by decide +kernel) fun t _ y => ?_
  blk_simp
  rw [after1_4]
  unfold outsAt1
  dsimp only
  have h := (idx1 t).2.2.2.2
  have h0 : (y 0).val = 0 := Nat.lt_one_iff.mp (y 0).isLt
  have hb : (((View.whole main_v12_1).slice (win1_4.rect t)).emb y 0).val = t.val := by
    show win1_4.index t 0 * 1 + 1 * (y 0).val = t.val; rw [h, h0]; show t.val * 1 + _ = _; omega
  rw [NmsBlock.out4, block1s V c t _ hb, block1l V c t _ hb, block1p V c t _ hb]
  skip
  congr 1
  refine funext fun a => Fin.ext ?_
  match a with
  | 0 => exact h0
  | 1 => show (y 1).val = win1_4.index t 1 * 4 + 1 * (y 1).val; rw [h]; show _ = 0 * 4 + _; omega
  | 2 => show (y 2).val = win1_4.index t 2 * 200 + 1 * (y 2).val; rw [h]; show _ = 0 * 200 + _; omega
  | 3 => show (y 3).val = win1_4.index t 3 * 128 + 1 * (y 3).val; rw [h]; show _ = 0 * 128 + _; omega

end Cert.Proof.Arr
end
-- ==== Proof.KernelValue.lean ====
module

public import proofs.«01_k».proof.Proof.HostRead
public import proofs.«01_k».proof.Proof.Arr
public import proofs.«01_k».proof.Proof.PickRead
public import proofs.«01_k».proof.Proof.Answer

/-! The kernel's result is the answer, wherever no two of a class's leading scores are equal. -/

@[expose] public section

set_option maxRecDepth 16384

noncomputable section

namespace Cert.Proof.KernelValue
open Idealize.ShloMosaic Idealize.ShloMosaic.TcCoe Idealize.SL.Sem
open Cert.KernelIdeal Cert.KernelIdeal.Gen
open Cert.Proof (Answer.scores Answer.boxes)

variable (m : (ℓ : Loc nD τ sig) → Buf (Elt Ideal) ℓ) (ρ : Dev nD → PrngReg) (c : Dev nD)

/-- The box offsets, as launched. -/
abbrev loc : Answer.Arr3 4 := m ((c : Thread nD τ).loc main_arg0)

/-- The logits, as launched. -/
abbrev conf : Answer.Arr3 21 := m ((c : Thread nD τ).loc main_arg1)

/-- The priors, as launched. -/
abbrev pri : (⟨2, ![8732, 4]⟩ : Shape).Idx → EReal := m ((c : Thread nD τ).loc main_arg2)

/-- The position at rank `k`. -/
abbrev pos (b : Fin 128) (cl : Fin 20) (k : Fin 200) : Fin 8732 := Det.topPos (Answer.scores (conf m c) b cl) ⟨k, by omega⟩

/-- The first call's scores of image `b` are the answer's. -/
theorem logits (b : Fin 128) (cl : Fin 20) :
    Det.classScores (PickRead.blockLogits (Arr.image (V2 m ρ c main_v1) b)) cl = Answer.scores (conf m c) b cl := by
  have h : PickRead.blockLogits (Arr.image (V2 m ρ c main_v1) b) = fun n ch => conf m c (ix3 b n ch) := by
    funext n ch
    show StableHlo.after hostOps0_1 (W1 m ρ c) (Proc.devRef .tc main_v1) (ix3 b ch ⟨n.val, by omega⟩) = _
    rw [HostRead.v1_at _ b ch _ n.isLt]
    exact HostRead.v0_at (W0 m ρ c) b ch n
  unfold Answer.scores
  rw [h]

variable (hs : ∀ b cl, TopPick.Strict (Answer.scores (conf m c) b cl))
include hs

/-- After the first call: the scores at the leading positions. -/
theorem scores_at (b : Fin 128) (cl : Fin 20) (k : Fin 200) :
    W3 m ρ c (Proc.devRef .tc main_v2_0) (ix3 b cl k) = Answer.scores (conf m c) b cl (pos m c b cl k) := by
  rw [show W3 m ρ c (Proc.devRef .tc main_v2_0) = _ from W3_arr m ρ c 1, Arr.topS]
  show k0_pay8 (PickBlock.accS (Arr.image (V2 m ρ c main_v1) b) 200) (ix3 0 cl k) = _
  have h := PickRead.accS_at (Arr.image (V2 m ρ c main_v1) b) cl (by rw [logits]; exact hs b cl)
    (by rw [logits]; exact Answer.nonNeg _ b cl) k 200 le_rfl k.isLt
  rw [logits] at h
  rw [← h]
  generalize PickBlock.accS (Arr.image (V2 m ρ c main_v1) b) 200 = A
  pointwise [k0_pay8]

/-- After the first call: the leading positions. -/
theorem place_at (b : Fin 128) (cl : Fin 20) (k : Fin 200) :
    W3 m ρ c (Proc.devRef .tc main_v2_1) (ix3 b cl k) = BitVec.ofNat 32 (pos m c b cl k).val := by
  rw [show W3 m ρ c (Proc.devRef .tc main_v2_1) = _ from W3_arr m ρ c 2, Arr.topI]
  show k0_pay9 (PickBlock.accI (Arr.image (V2 m ρ c main_v1) b) 200) (ix3 0 cl k) = _
  have h := PickRead.accI_at (Arr.image (V2 m ρ c main_v1) b) cl (by rw [logits]; exact hs b cl)
    (by rw [logits]; exact Answer.nonNeg _ b cl) k 200 le_rfl k.isLt
  rw [logits] at h
  rw [← h]
  generalize PickBlock.accI (Arr.image (V2 m ρ c main_v1) b) 200 = A
  pointwise [k0_pay9]

omit hs in
/-- A position is below the cap. -/
theorem cap (n : Fin 8732) : IntOp.minsi (BitVec.ofNat 32 n.val) 8731#32 = BitVec.ofNat 32 n.val := by
  unfold IntOp.minsi
  have h1 := Words.toInt_ofNat (a := n.val) (by omega)
  have h2 : (8731#32 : BitVec 32).toInt = 8731 := by decide
  simp only [BitVec.slt, BitVec.sle, h1, h2]
  split <;> rename_i h
  · rfl
  · have : ¬ ((n.val : ℤ) < 8731) := by simpa using h
    have hn : n.val = 8731 := by omega
    rw [hn]

/-- The second call's scores. -/
theorem v9 (b : Fin 128) (cl : Fin 20) (k : Fin 200) :
    W7 m ρ c (Proc.devRef .tc main_v9) (ix3 cl k b) = Answer.scores (conf m c) b cl (pos m c b cl k) := by
  refine (HostRead.v9_at (W6 m ρ c) b cl k).trans ?_
  rw [W6_of m ρ c main_v2_0 (by decide), W5_of m ρ c main_v2_0 (by decide), W4_of m ρ c main_v2_0 (by decide)]
  exact scores_at m ρ c hs b cl k

/-- The second call's offsets. -/
theorem v10 (b : Fin 128) (cl : Fin 20) (k : Fin 200) (d : Fin 4) :
    W7 m ρ c (Proc.devRef .tc main_v10) (ix4 cl d k b) = loc m c (ix3 b (pos m c b cl k) d) := by
  refine (HostRead.v10_at (W6 m ρ c) b cl k d).trans ?_
  rw [W6_of m ρ c main_v7 (by decide)]
  refine (HostRead.v7_at (W4 m ρ c) b cl k d (pos m c b cl k) ?_).trans ?_
  · refine (HostRead.v6_at (W3 m ρ c) b cl k).trans ?_
    rw [place_at m ρ c hs, cap]
  · refine (HostRead.v5_at (W3 m ρ c) b _ d).trans ?_
    rw [W3_args m ρ c main_arg0 (by decide)]

/-- The second call's priors. -/
theorem v11 (b : Fin 128) (cl : Fin 20) (k : Fin 200) (d : Fin 4) :
    W7 m ρ c (Proc.devRef .tc main_v11) (ix4 cl d k b) = pri m c (ix2 (pos m c b cl k) d) := by
  refine (HostRead.v11_at (W6 m ρ c) b cl k d).trans ?_
  refine (HostRead.v8_at (W5 m ρ c) b cl k d (pos m c b cl k) ?_).trans ?_
  · rw [W5_of m ρ c main_v4 (by decide)]
    refine (HostRead.v4_at (W3 m ρ c) b cl k).trans ?_
    rw [place_at m ρ c hs, cap]
  · rw [W5_args m ρ c main_arg2 (by decide)]

/-- The boxes the second call decodes. -/
theorem box (b : Fin 128) (cl : Fin 20) (k : Fin 200) :
    NmsRead.box (Arr.slab4 (V7 m ρ c main_v10) cl) (Arr.slab4 (V7 m ρ c main_v11) cl) b k
      = Answer.boxes (loc m c) (pri m c) b (pos m c b cl k) := by
  exact congrArg₂ Det.corner (funext fun d => v10 m ρ c hs b cl k d) (funext fun d => v11 m ρ c hs b cl k d)

/-- The scores the second call reads. -/
theorem sc (b : Fin 128) (cl : Fin 20) :
    NmsRead.sc (Arr.slab3 (V7 m ρ c main_v9) cl) b = fun k => Answer.scores (conf m c) b cl (pos m c b cl k) := by
  funext k; exact v9 m ρ c hs b cl k

/-- None of them is negative. -/
theorem sc_nonneg (b : Fin 128) (cl : Fin 20) (n : Fin 200) : 0 ≤ NmsRead.sc (Arr.slab3 (V7 m ρ c main_v9) cl) b n := by
  rw [sc m ρ c hs]
  exact TopPick.top_nonneg (hs b cl) (Answer.nonNeg _ b cl) n

/-- After the second call: each candidate's score, zero for a suppressed one. -/
theorem out_s (b : Fin 128) (cl : Fin 20) (k : Fin 200) :
    W8 m ρ c (Proc.devRef .tc main_v12_0) (ix3 cl k b)
      = Det.entry (Answer.scores (conf m c) b cl) (Answer.boxes (loc m c) (pri m c) b) k 0 := by
  rw [show W8 m ρ c (Proc.devRef .tc main_v12_0) = _ from W8_arr m ρ c 3, Arr.outS]
  refine (NmsRead.out3_at (Arr.slab3 (V7 m ρ c main_v9) cl) (Arr.slab4 (V7 m ρ c main_v10) cl) (Arr.slab4 (V7 m ρ c main_v11) cl) b (sc_nonneg m ρ c hs b cl) k).trans ?_
  simp only [box m ρ c hs, sc m ρ c hs]
  unfold Det.entry
  rw [dif_pos (show (0 : Fin 5).val = 0 from rfl)]

/-- After the second call: each candidate's box, zero for a suppressed one. -/
theorem out_b (b : Fin 128) (cl : Fin 20) (k : Fin 200) (d : Fin 5) (hd : ¬ d.val < 1) :
    W8 m ρ c (Proc.devRef .tc main_v12_1) (ix4 cl ⟨d.val - 1, by omega⟩ k b)
      = Det.entry (Answer.scores (conf m c) b cl) (Answer.boxes (loc m c) (pri m c) b) k d := by
  rw [show W8 m ρ c (Proc.devRef .tc main_v12_1) = _ from W8_arr m ρ c 4, Arr.outB]
  refine (NmsRead.out4_at (Arr.slab3 (V7 m ρ c main_v9) cl) (Arr.slab4 (V7 m ρ c main_v10) cl) (Arr.slab4 (V7 m ρ c main_v11) cl) b (sc_nonneg m ρ c hs b cl) ⟨d.val - 1, by omega⟩ k).trans ?_
  simp only [box m ρ c hs, sc m ρ c hs]
  unfold Det.entry
  rw [dif_neg (by omega)]

/-- The kernel's result. -/
theorem value : W9 m ρ c (Proc.devRef .tc main_v18) = Answer.answer (loc m c) (conf m c) (pri m c) := by
  refine funext fun y => ?_
  obtain ⟨b, cl, k, d, rfl⟩ : ∃ (b : Fin 128) (cl : Fin 21) (k : Fin 200) (d : Fin 5), y = ix4 b cl k d := ⟨y 0, y 1, y 2, y 3, ValueIdx.eq_ix4 y⟩
  refine (HostRead.v18_at (W8 m ρ c) b cl k d).trans ?_
  show _ = Answer.at' (loc m c) (conf m c) (pri m c) b cl k d
  unfold Answer.at'
  by_cases hc : cl.val < 1
  · rw [dif_pos hc, dif_pos hc]
  · rw [dif_neg hc, dif_neg hc]
    by_cases hd : d.val < 1
    · rw [dif_pos hd, out_s m ρ c hs, show d = 0 from Fin.ext (by omega)]
    · rw [dif_neg hd, out_b m ρ c hs _ _ _ _ hd]

end Cert.Proof.KernelValue
end
-- ==== Proof.Distinct.lean ====
module

public import proofs.«01_k».proof.Proof.Softmax
public import proofs.«01_k».proof.Proof.Gen.Pre_top_scores_distinct
public import Idealize.ShloMosaic.Lib.ReduceAll

/-! The precondition says that each class's leading scores strictly decrease. -/

@[expose] public section

set_option maxRecDepth 16384

noncomputable section

namespace Cert.Proof.Distinct
open Idealize.ShloMosaic
open Cert.Pre_top_scores_distinct Cert.Pre_top_scores_distinct.Gen

variable (x0 : FVec Ideal S128x8732x4 .f32) (x1 : FVec Ideal S128x8732x21 .f32) (x2 : FVec Ideal S8732x4 .f32)

/-- The 201 leading scores, as the precondition prints them. -/
def lead : FVec Ideal S128x20x201 .f32 :=
  (Host.topK S128x20x201 2 (FloatOps.cmpfTotal .gt)
    (Softmax.ranked reducesTo_S128x8732x21_S128x8732_d2 h_S_ bcast_S_S128x8732 bcast_S128x8732_S128x8732x1_0_1 bcast_S128x8732x1_S128x8732x21_0_1_2
      slices_S128x8732x21_S128x8732x20_0_0_1 transposes_S128x8732x20_S128x20x8732_0_2_1 x1) sliceFits_S128x20x8732_S128x20x201).1

/-- The precondition in terms of them. -/
theorem fn_eq : fn x0 x1 x2 = Host.reduce IntOp.andi (cmpf .ogt (extractStridedSlice S128x20x200 ![0, 0, 0] (lead x1) slices_S128x20x201_S128x20x200_0_0_0)
    (extractStridedSlice S128x20x200 ![0, 0, 1] (lead x1) slices_S128x20x201_S128x20x200_0_0_1)) (constantI S_ 1 1#1) reducesTo_S128x20x200_S_d0_1_2 h_S_ := rfl

/-- One leading score. -/
theorem lead_at (b : Fin 128) (c : Fin 20) (k : Fin 201) :
    lead x1 (ix3 b c k) = Answer.scores x1 b c (Det.topPos (Answer.scores x1 b c) ⟨k.val, by omega⟩) := by
  unfold lead
  refine (Softmax.top_values_at (by omega) _ _ b c k).trans ?_
  simp only [Softmax.ranked_at]

/-- Where the precondition holds, each class's leading scores strictly decrease. -/
theorem strict (h : ∀ j, fn x0 x1 x2 j = 1#1) (b : Fin 128) (c : Fin 20) : TopPick.Strict (Answer.scores x1 b c) := fun k => by
  have : Subsingleton S_.Idx := ⟨fun a b => funext fun i => i.elim0⟩
  have h1 := Host.reduce_andi_all _ _ _ _ _ ((congrFun (fn_eq x0 x1 x2) ix0).symm.trans (h ix0)) (ix3 b c k)
  have h2 : cmpf .ogt (extractStridedSlice S128x20x200 ![0, 0, 0] (lead x1) slices_S128x20x201_S128x20x200_0_0_0)
      (extractStridedSlice S128x20x200 ![0, 0, 1] (lead x1) slices_S128x20x201_S128x20x200_0_0_1) (ix3 b c k)
      = Ideal.cmp .ogt (lead x1 (ix3 b c ⟨k.val, by omega⟩)) (lead x1 (ix3 b c ⟨1 + k.val, by omega⟩)) := by
    generalize lead x1 = L
    pointwise
  have h3 := h2.symm.trans h1
  rw [lead_at, lead_at] at h3
  unfold Ideal.cmp at h3
  simp only [Words.ofBool_eq_one, decide_eq_true_eq, Nat.add_comm 1 k.val] at h3
  exact h3

end Cert.Proof.Distinct
end
-- ==== Proof.lean ====
/- The certificate: each claim from the module that proves it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_top_scores_distinct
public import proofs.«01_k».proof.Proof.RefFrame
public import proofs.«01_k».proof.Proof.RefValue
public import proofs.«01_k».proof.Proof.KernelRun
public import proofs.«01_k».proof.Proof.KernelValue
public import proofs.«01_k».proof.Proof.Distinct
public import Idealize.ShloMosaic.Adequacy
public import Idealize.ShloMosaic.Init

@[expose] public section

noncomputable section

namespace Cert.Proof

open Idealize.ShloMosaic Idealize.SL.Sem Cert.Kernel

/-- Where no two of the scores in question are equal, the kernel and the reference end with the same answer. -/
theorem same : Cert.algebraic_KernelIdeal_ReferenceIdeal (hKernelIdeal := Cert.KernelIdeal.Gen.facts)
    (hReferenceIdeal := Cert.ReferenceIdeal.Gen.facts) (hPre_top_scores_distinct := Cert.Pre_top_scores_distinct.Gen.facts) := by
  intro m g m' g' hp ha
  refine ⟨fun c => Answer.answer (KernelValue.loc m c) (KernelValue.conf m c) (KernelValue.pri m c), ?_, ?_⟩
  · refine (θ_run (Cert.KernelIdeal.defs (F := Ideal)) _ _).mono (fun r h c => ?_) (KernelRun.run m g)
    obtain ⟨h, h0, h1, h2⟩ := h c
    exact ⟨h.trans (KernelValue.value m g c fun b cl => Distinct.strict _ _ _ (fun j => congrFun (hp c) j) b cl), h0, h1, h2⟩
  · refine (θ_run (Cert.ReferenceIdeal.defs (F := Ideal)) _ _).mono (fun r h c => ?_) (Cert.ReferenceIdeal.Value.run_fold m' g')
    obtain ⟨h0, h1, h2⟩ := RefFrame.final_args m' c
    refine ⟨(h c Cert.ReferenceIdeal.main_v102 rfl).trans ((RefValue.value m' c).trans ?_), (h c Cert.ReferenceIdeal.main_arg0 rfl).trans h0,
      (h c Cert.ReferenceIdeal.main_arg1 rfl).trans h1, (h c Cert.ReferenceIdeal.main_arg2 rfl).trans h2⟩
    obtain ⟨a0, a1, a2⟩ := ha c
    rw [a0, a1, a2]

/-- Every claim. -/
theorem claim : Cert.Claim := ⟨Cert.Kernel.Gen.facts, Cert.KernelIdeal.Gen.facts, Cert.ReferenceIdeal.Gen.facts, Cert.Pre_top_scores_distinct.Gen.facts,
  fun m ρ _ => Cert.Kernel.Gen.frame m ρ,
  fun m ρ _ => Cert.Kernel.Gen.frame m ρ,
  fun m ρ _ => Cert.KernelIdeal.Gen.frame m ρ,
  fun m ρ _ => RefFrame.frame m ρ,
  fun m ρ _ => RefFrame.frame m ρ,
  trivial,
  same⟩

end Cert.Proof

end
